-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 1024]⟩ ⟨3, ![4, 4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1024x1024 : Shape := ⟨2, ![1024, 1024]⟩
abbrev S4x1024x512 : Shape := ⟨3, ![4, 1024, 512]⟩
abbrev S3x4 : Shape := ⟨2, ![3, 4]⟩
abbrev S_ : Shape := ⟨0, ![]⟩
abbrev S1x1 : Shape := ⟨2, ![1, 1]⟩
abbrev S1x256x512 : Shape := ⟨3, ![1, 256, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1024x1024, .f32⟩
  | .local _ .vmem, ⟨0, _⟩ => ⟨S4096x1024, .f32⟩
  | .local _ .vmem, ⟨1, _⟩ => ⟨S1x1024, .f32⟩
  | .local _ .vmem, ⟨2, _⟩ => ⟨S1024x1024, .f32⟩
  | .local _ .vmem, ⟨3, _⟩ => ⟨S4x1024x512, .f32⟩
  | .local _ .vmem, ⟨4, _⟩ => ⟨S4x1024x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_33 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v52 : BitVec 32 := Scalar.muli v40 c1024_i32
  let v53 : BitVec 32 := Scalar.addi v52 c0_i32_33
  let c0_i32_43 : BitVec 32 := 0#32
  ![v53.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v54 : BitVec 32 := Scalar.muli v24 c1_i32_39
  let v55 : BitVec 32 := Scalar.addi c0_i32_40 v54
  v55.toNat
def k0_off2 (d0 : Dev nD) (c0_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v41 : BitVec 32 := Scalar.addi v2 c1_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c1024_i32_44 : BitVec 32 := 1024#32
  let v63 : BitVec 32 := Scalar.muli v51 c1024_i32_44
  let v64 : BitVec 32 := Scalar.addi v63 c0_i32_45
  let c512_i32 : BitVec 32 := 512#32
  ![v64.toNat, 512]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v65 : BitVec 32 := Scalar.muli v13 c1_i32_51
  let v66 : BitVec 32 := Scalar.addi c0_i32_52 v65
  v66.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_61 : BitVec 32 := 1#32
  let v76 : BitVec 32 := Scalar.muli v24 c1_i32_61
  let v77 : BitVec 32 := Scalar.addi c0_i32_62 v76
  v77.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v87 : BitVec 32 := Scalar.muli v13 c1_i32_73
  let v88 : BitVec 32 := Scalar.addi c0_i32_74 v87
  v88.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v98 : BitVec 32 := Scalar.muli v24 c1_i32_85
  let v99 : BitVec 32 := Scalar.addi c0_i32_86 v98
  v99.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_97 : BitVec 32 := 1#32
  let v109 : BitVec 32 := Scalar.muli v13 c1_i32_97
  let v110 : BitVec 32 := Scalar.addi c0_i32_98 v109
  v110.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_107 : BitVec 32 := 1#32
  let v120 : BitVec 32 := Scalar.muli v24 c1_i32_107
  let v121 : BitVec 32 := Scalar.addi c0_i32_108 v120
  v121.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_119 : BitVec 32 := 1#32
  let v131 : BitVec 32 := Scalar.muli v13 c1_i32_119
  let v132 : BitVec 32 := Scalar.addi c0_i32_120 v131
  v132.toNat
def k0_off3 (d0 : Dev nD) (c0_i32_125 : BitVec 32) (c0_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_124 : BitVec 32 := 2#32
  let v140 : BitVec 32 := Scalar.subi v2 c2_i32_124
  let v141 : BitVec 32 := Scalar.subi v140 c0_i32_125
  let c4_i32_126 : BitVec 32 := 4#32
  let c0_i32_127 : BitVec 32 := 0#32
  let v142 : BitVec 1 := Scalar.cmpi .eq c4_i32_126 c0_i32_127
  let c1_i32_128 : BitVec 32 := 1#32
  let v143 : BitVec 32 := Scalar.select v142 c1_i32_128 c4_i32_126
  let v144 : BitVec 32 := Scalar.remsi v141 v143
  let c0_i32_130 : BitVec 32 := 0#32
  let v146 : BitVec 1 := Scalar.cmpi .slt v144 c0_i32_130
  let c0_i32_131 : BitVec 32 := 0#32
  let v147 : BitVec 1 := Scalar.cmpi .slt v143 c0_i32_131
  let v148 : BitVec 1 := Scalar.xori v146 v147
  let c0_i32_129 : BitVec 32 := 0#32
  let v145 : BitVec 1 := Scalar.cmpi .ne v144 c0_i32_129
  let v149 : BitVec 1 := Scalar.andi v148 v145
  let v150 : BitVec 32 := Scalar.addi v144 v143
  let v151 : BitVec 32 := Scalar.select v149 v150 v144
  let c1024_i32_140 : BitVec 32 := 1024#32
  let v164 : BitVec 32 := Scalar.muli v151 c1024_i32_140
  let v165 : BitVec 32 := Scalar.addi v164 c0_i32_141
  let v166 : Index := Scalar.indexCast v165
  let c0 : Index := 0#32
  ![v166.toNat, 0]
def k0_off4 (d0 : Dev nD) (c0_i32_133 : BitVec 32) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_132 : BitVec 32 := 2#32
  let v152 : BitVec 32 := Scalar.addi v2 c2_i32_132
  let v153 : BitVec 32 := Scalar.addi v152 c0_i32_133
  let c4_i32_134 : BitVec 32 := 4#32
  let c0_i32_135 : BitVec 32 := 0#32
  let v154 : BitVec 1 := Scalar.cmpi .eq c4_i32_134 c0_i32_135
  let c1_i32_136 : BitVec 32 := 1#32
  let v155 : BitVec 32 := Scalar.select v154 c1_i32_136 c4_i32_134
  let v156 : BitVec 32 := Scalar.remsi v153 v155
  let c0_i32_138 : BitVec 32 := 0#32
  let v158 : BitVec 1 := Scalar.cmpi .slt v156 c0_i32_138
  let c0_i32_139 : BitVec 32 := 0#32
  let v159 : BitVec 1 := Scalar.cmpi .slt v155 c0_i32_139
  let v160 : BitVec 1 := Scalar.xori v158 v159
  let c0_i32_137 : BitVec 32 := 0#32
  let v157 : BitVec 1 := Scalar.cmpi .ne v156 c0_i32_137
  let v161 : BitVec 1 := Scalar.andi v160 v157
  let v162 : BitVec 32 := Scalar.addi v156 v155
  let v163 : BitVec 32 := Scalar.select v161 v162 v156
  let c1024_i32_142 : BitVec 32 := 1024#32
  let v169 : BitVec 32 := Scalar.muli v163 c1024_i32_142
  let v170 : BitVec 32 := Scalar.addi v169 c0_i32_143
  let v171 : Index := Scalar.indexCast v170
  let c512 : Index := 512#32
  ![v171.toNat, 512]
def k0_dev11 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_165 : BitVec 32 := 1#32
  let v187 : BitVec 32 := Scalar.muli v24 c1_i32_165
  let v188 : BitVec 32 := Scalar.addi c0_i32_166 v187
  v188.toNat
def k0_dev12 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_193 : BitVec 32 := 1#32
  let v210 : BitVec 32 := Scalar.muli v13 c1_i32_193
  let v211 : BitVec 32 := Scalar.addi c0_i32_194 v210
  v211.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_226 : BitVec 32 := 1#32
  let v243 : BitVec 32 := Scalar.muli v24 c1_i32_226
  let v244 : BitVec 32 := Scalar.addi c0_i32_227 v243
  v244.toNat
def k0_dev14 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_254 : BitVec 32 := 1#32
  let v266 : BitVec 32 := Scalar.muli v13 c1_i32_254
  let v267 : BitVec 32 := Scalar.addi c0_i32_255 v266
  v267.toNat
def k0_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_288 : BitVec 32 := 1#32
  let v299 : BitVec 32 := Scalar.muli v24 c1_i32_288
  let v300 : BitVec 32 := Scalar.addi c0_i32_289 v299
  v300.toNat
def k0_dev16 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_316 : BitVec 32 := 1#32
  let v322 : BitVec 32 := Scalar.muli v13 c1_i32_316
  let v323 : BitVec 32 := Scalar.addi c0_i32_317 v322
  v323.toNat
def k0_dev17 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_349 : BitVec 32 := 1#32
  let v355 : BitVec 32 := Scalar.muli v24 c1_i32_349
  let v356 : BitVec 32 := Scalar.addi c0_i32_350 v355
  v356.toNat
def k0_dev18 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_377 : BitVec 32 := 1#32
  let v378 : BitVec 32 := Scalar.muli v13 c1_i32_377
  let v379 : BitVec 32 := Scalar.addi c0_i32_378 v378
  v379.toNat
def k0_dev19 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_428 : BitVec 32 := 1#32
  let v436 : BitVec 32 := Scalar.muli v24 c1_i32_428
  let v437 : BitVec 32 := Scalar.addi c0_i32_429 v436
  v437.toNat
def k0_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_458 : BitVec 32 := 1#32
  let v460 : BitVec 32 := Scalar.muli v13 c1_i32_458
  let v461 : BitVec 32 := Scalar.addi c0_i32_459 v460
  v461.toNat
def k0_dev21 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_494 : BitVec 32 := 1#32
  let v494 : BitVec 32 := Scalar.muli v24 c1_i32_494
  let v495 : BitVec 32 := Scalar.addi c0_i32_495 v494
  v495.toNat
def k0_dev22 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_524 : BitVec 32 := 1#32
  let v518 : BitVec 32 := Scalar.muli v13 c1_i32_524
  let v519 : BitVec 32 := Scalar.addi c0_i32_525 v518
  v519.toNat
def k0_dev23 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_560 : BitVec 32 := 1#32
  let v552 : BitVec 32 := Scalar.muli v24 c1_i32_560
  let v553 : BitVec 32 := Scalar.addi c0_i32_561 v552
  v553.toNat
def k0_dev24 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_590 : BitVec 32 := 1#32
  let v576 : BitVec 32 := Scalar.muli v13 c1_i32_590
  let v577 : BitVec 32 := Scalar.addi c0_i32_591 v576
  v577.toNat
def k0_dev25 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_626 : BitVec 32 := 1#32
  let v610 : BitVec 32 := Scalar.muli v24 c1_i32_626
  let v611 : BitVec 32 := Scalar.addi c0_i32_627 v610
  v611.toNat
def k0_dev26 (d0 : Dev nD) : Nat :=
  let c0_i32_657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_656 : BitVec 32 := 1#32
  let v634 : BitVec 32 := Scalar.muli v13 c1_i32_656
  let v635 : BitVec 32 := Scalar.addi c0_i32_657 v634
  v635.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x1024 : Shape := ⟨3, ![4, 4096, 1024]⟩
abbrev S1024 : Shape := ⟨1, ![1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Sched.lean ====
/-
The ring reduce-scatter's protocol: who copies onto whose buffer, on which semaphore, in which order, and what every landing hands over.

Each device `c` makes 24 remote copies, in program order `n = 8 h + 2 k + d`: hop `h` (0, 1, 2), sub-block `k` of 256 rows (0 to 3), direction
`d` (0: to the right neighbour `nxt c`, the left 512 columns; 1: to the left neighbour `prv c`, the right 512 columns). Copy `n` reads a block
of the device's own argument (hop 0) or piece `n / 2` of its own communication buffer of direction `d` (later hops), and lands in piece
`n / 2 + 4` of the neighbour's; a communication buffer is 16 pieces of 256 x 512, four to a slot. It signals semaphore `sndS n` at the sender
and `rcvS n` at the receiver. Before any copy, each device signals both neighbours' barrier semaphore: to the left neighbour it hands the
pieces that neighbour's right-going copies land in, to the right neighbour those of the left-going copies.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Memref
public import Idealize.ShloMosaic.Lib.MemrefSat
public import Idealize.SL.BI.BigOpNat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- The device copy `n` of device `c` lands on, and the device whose copy `n` lands on `c`. -/
def dest (n : ℕ) (c : Dev nD) : Dev nD := if n % 2 = 0 then nxt c else prv c
def orig (n : ℕ) (c : Dev nD) : Dev nD := if n % 2 = 0 then prv c else nxt c
theorem orig_dest (n : ℕ) (c : Dev nD) : orig n (dest n c) = c := by
  unfold orig dest; split
  · exact prv_nxt c
  · exact nxt_prv c
theorem dest_orig (n : ℕ) (c : Dev nD) : dest n (orig n c) = c := by
  unfold orig dest; split
  · exact nxt_prv c
  · exact prv_nxt c
theorem dest_even (i : ℕ) (c : Dev nD) : dest (2 * i) c = nxt c := by unfold dest; rw [if_pos (by omega)]
theorem dest_odd (i : ℕ) (c : Dev nD) : dest (2 * i + 1) c = prv c := by unfold dest; rw [if_neg (by omega)]

/-! ## Semaphores and cells -/

/-- The kernel's own transfer semaphore number `j` (there are 48). -/
def dsem (j : ℕ) : DmaSem sig := ⟨(3 + j) % 51, Nat.mod_lt _ (by decide)⟩
/-- Copy `n`'s semaphore at the sender, and at the receiver. -/
def sndS (n : ℕ) : DmaSem sig := dsem (24 * (n % 2) + n / 2)
def rcvS (n : ℕ) : DmaSem sig := dsem (24 * (n % 2) + 12 + n / 2)

abbrev barS : Sem sig := barrier0
abbrev barCell (c : Dev nD) : GSem nD τ sig := ((c : Thread nD τ), .reg barS)
abbrev sndCell (c : Dev nD) (n : ℕ) : GSem nD τ sig := ((c : Thread nD τ), .dma (sndS n))
abbrev rcvCell (c : Dev nD) (n : ℕ) : GSem nD τ sig := ((c : Thread nD τ), .dma (rcvS n))

/-- Which copy a transfer semaphore belongs to, and at which end. -/
def copyOf (s : DmaSem sig) : ℕ := 2 * ((s.val - 3) % 12) + (s.val - 3) / 24
def isRecv (s : DmaSem sig) : Bool := decide (12 ≤ (s.val - 3) % 24)
def isOwn (s : DmaSem sig) : Bool := decide (3 ≤ s.val)

theorem snd_facts (n : ℕ) (hn : n < 24) : copyOf (sndS n) = n ∧ isRecv (sndS n) = false ∧ isOwn (sndS n) = true :=
  (by decide : ∀ n : Fin 24, copyOf (sndS n.val) = n.val ∧ isRecv (sndS n.val) = false ∧ isOwn (sndS n.val) = true) ⟨n, hn⟩
theorem rcv_facts (n : ℕ) (hn : n < 24) : copyOf (rcvS n) = n ∧ isRecv (rcvS n) = true ∧ isOwn (rcvS n) = true :=
  (by decide : ∀ n : Fin 24, copyOf (rcvS n.val) = n.val ∧ isRecv (rcvS n.val) = true ∧ isOwn (rcvS n.val) = true) ⟨n, hn⟩

/-! ## The memrefs -/

abbrev xM : Memref sig .tc .vmem S4096x1024 .f32 := Memref.whole cc0_stg0_0
abbrev gM : Memref sig .tc .vmem S1x1024 .f32 := Memref.whole cc0_stg1_0
abbrev oM : Memref sig .tc .vmem S1024x1024 .f32 := Memref.whole cc0_stg2_0
abbrev comm : ℕ → Memref sig .tc .vmem S4x1024x512 .f32
  | 0 => Memref.whole cc0_scratch0
  | _ + 1 => Memref.whole cc0_scratch1

theorem piece_inb (p : ℕ) : ∀ a, (![p / 4 % 4, 256 * (p % 4), 0] : Fin 3 → ℕ) a + S1x256x512.size a ≤ S4x1024x512.size a := by
  intro a
  fin_cases a
  · show p / 4 % 4 + 1 ≤ 4; omega
  · show 256 * (p % 4) + 256 ≤ 1024; omega
  · show 0 + 512 ≤ 512; omega

abbrev pieceR (p : ℕ) : Rect S4x1024x512 := Rect.unit ![p / 4 % 4, 256 * (p % 4), 0] S1x256x512.size (piece_inb p)
/-- Piece `p` of the communication buffer of direction `d`. -/
abbrev piece (d p : ℕ) : Memref sig .tc .vmem S256x512 .f32 :=
  ((comm d).slice (pieceR p) (fun _ => rfl)).squeeze S256x512 squeezes_S1x256x512_S256x512

/-- The block of the argument that hop 0's copy of direction `d` reads, at row offset `w` within its 1024 rows. -/
abbrev xOff (d : ℕ) (c : Dev nD) (w : BitVec 32) : Fin 2 → ℕ :=
  match d with
  | 0 => k0_off1 c w
  | _ + 1 => k0_off2 c w
theorem xOff_inb (d : ℕ) (c : Dev nD) (k : Fin 4) : ∀ a, xOff d c (BitVec.ofNat 32 (256 * k.val)) a + S256x512.size a ≤ S4096x1024.size a :=
  match d with
  | 0 => k0_off1_inb c k
  | _ + 1 => k0_off2_inb c k
abbrev xSrc (d : ℕ) (k : Fin 4) (c : Dev nD) : Memref sig .tc .vmem S256x512 .f32 :=
  xM.slice (Rect.unit (s := S4096x1024) (xOff d c (BitVec.ofNat 32 (256 * k.val))) S256x512.size (xOff_inb d c k)) (fun _ => rfl)

abbrev sub (n : ℕ) : Fin 4 := ⟨n / 2 % 4, Nat.mod_lt _ (by decide)⟩
/-- Where copy `n` lands. -/
abbrev dstM (n : ℕ) : Memref sig .tc .vmem S256x512 .f32 := piece (n % 2) (n / 2 + 4)

/-- What every transfer's semaphore is credited. -/
abbrev N : ℕ := (dstM 0).view.dmaCredit
theorem N_pos : 0 < N := View.dmaCredit_pos _ (by decide)

/-! ## Contents -/

/-- Each device's argument block as the kernel finds it staged. -/
abbrev Blocks (F : FTy → Type) : Type := Dev nD → (cc0_stg0_0 : Ref sig .tc).ty.Contents (Elt F)

/-- The block of its own argument a device adds to what hop `h` landed. -/
def xTerm (X : Blocks F) (d : ℕ) (h : Fin 3) (k : Fin 4) (c : Dev nD) : Vec F S256x512 .f32 :=
  match d with
  | 0 => xM.view.readAt (Elt F) (Rect.unit (s := S4096x1024) (k0_off3 c (BitVec.ofNat 32 h.val) (BitVec.ofNat 32 (256 * k.val))) S256x512.size (k0_off3_inb c h k)).toLoadRect (X c)
  | _ + 1 => xM.view.readAt (Elt F) (Rect.unit (s := S4096x1024) (k0_off4 c (BitVec.ofNat 32 h.val) (BitVec.ofNat 32 (256 * k.val))) S256x512.size (k0_off4_inb c h k)).toLoadRect (X c)

/-- The partial sum device `c` sends at hop `h` (at 3: its finished sum), direction `d`, sub-block `k`. -/
def acc (X : Blocks F) (d : ℕ) (k : Fin 4) : ℕ → Dev nD → Vec F S256x512 .f32
  | 0, c => (xSrc d k c).view.read (Elt F) (X c)
  | h + 1, c => addf (acc X d k h (orig d c)) (xTerm X d ⟨h % 3, Nat.mod_lt _ (by decide)⟩ k c)

/-- What copy `n` of device `c` sends, and what lands on `c` by the copy `n` that targets it. -/
def sent (X : Blocks F) (n : ℕ) (c : Dev nD) : Vec F S256x512 .f32 := acc X (n % 2) (sub n) (n / 8) c
def landed (X : Blocks F) (n : ℕ) (c : Dev nD) : Vec F S256x512 .f32 := sent X n (orig n c)

/-! ## The payloads -/

variable (X : Blocks F)

/-- The staged argument block of `c`, whole, at a share. -/
abbrev xPts (c : Dev nD) (q : PosShare TreeShare) : sProp 𝕄 := (xM.view.loc (c : Thread nD τ)) ↦[xM.view.set]{q} X c
/-- What remains of the argument block's share after `n` copies borrowed theirs, and copy `n`'s own. -/
def xr : ℕ → PosShare TreeShare
  | 0 => fullShare
  | n + 1 => (xr n).right
abbrev xq (n : ℕ) : PosShare TreeShare := (xr n).left

/-- Copy `n`'s destination on device `e`, at contents not chosen, and that its landing cell is open. -/
def destPk (e : Dev nD) (n : ℕ) : sProp 𝕄 :=
  iprop((∃ Y, owns (e : Thread nD τ) (dstM n) fullShare Y) ∗ reached ER (rcvCell e n) 0)
/-- What a neighbour hands over with its signal. -/
def barPay (c : Dev nD) (b : Bool) : sProp 𝕄 :=
  bigSep (Finset.range 12) fun i => if b then destPk (F := F) (prv c) (2 * i + 1) else destPk (F := F) (nxt c) (2 * i)
/-- Copy `n`'s source, back at the sender. -/
def sndPay (c : Dev nD) (n : ℕ) : sProp 𝕄 :=
  if n < 8 then iprop(((xSrc (n % 2) (sub n) c).view.loc (c : Thread nD τ)) ↦[(xSrc (n % 2) (sub n) c).view.set]{xq n} X c)
  else owns (c : Thread nD τ) (piece (n % 2) (n / 2)) fullShare (sent X n c)
/-- Copy `n` landed. -/
def rcvPay (c : Dev nD) (n : ℕ) : sProp 𝕄 := owns (c : Thread nD τ) (dstM n) fullShare (landed X n c)

/-! ## The schedule -/

/-- One round: two duties at every device's barrier cell, one at each of its 48 transfer cells. -/
def ringRd : Rounds.Schedule (GSem nD τ sig) Bool 𝕄 where
  duties g r := if r = 0 ∧ g.1.2 = .tc then
      (match g.2 with
        | .reg _ => {false, true}
        | .dma s => if isOwn s then {false} else ∅)
    else ∅
  unitless _ := False
  amount g _ _ := match g.2 with
    | .reg _ => 1
    | .dma _ => N
  payload g _ b := match g.2 with
    | .reg _ => barPay g.1.1 b
    | .dma s => if isRecv s then rcvPay X g.1.1 (copyOf s) else sndPay X g.1.1 (copyOf s)
  amount_pos g _ _ _ := by
    cases g.2 with
    | reg _ => exact Nat.one_pos
    | dma _ => exact N_pos

instance destPk_storable (e : Dev nD) (n : ℕ) : BI.Storable (upEmb : UEmb _ 𝕄) (destPk (F := F) e n) := by unfold destPk; infer_instance
instance sndPay_storable (c : Dev nD) (n : ℕ) : BI.Storable (upEmb : UEmb _ 𝕄) (sndPay X c n) := by unfold sndPay; split <;> infer_instance
instance rcvPay_storable (c : Dev nD) (n : ℕ) : BI.Storable (upEmb : UEmb _ 𝕄) (rcvPay X c n) := by unfold rcvPay; infer_instance
instance barPay_storable (c : Dev nD) (b : Bool) : BI.Storable (upEmb : UEmb _ 𝕄) (barPay (F := F) c b) := by
  unfold barPay; cases b <;> simp only [if_true, Bool.false_eq_true, if_false] <;> infer_instance

instance ringRd_payload_storable (g : GSem nD τ sig) (r : ℕ) (d : Bool) :
    BI.Storable (upEmb : UEmb _ 𝕄) ((ringRd X).payload g r d) := by
  dsimp only [ringRd]
  (repeat' split) <;> infer_instance

section Facts
variable (c : Dev nD) (n : ℕ) (hn : n < 24)
include hn

theorem duties_bar : (ringRd X).duties (barCell c) 0 = {false, true} := by dsimp only [ringRd]; exact if_pos ⟨rfl, rfl⟩
theorem duties_snd : (ringRd X).duties (sndCell c n) 0 = {false} := by
  dsimp only [ringRd]; rw [if_pos ⟨rfl, rfl⟩]; exact if_pos (snd_facts n hn).2.2
theorem duties_rcv : (ringRd X).duties (rcvCell c n) 0 = {false} := by
  dsimp only [ringRd]; rw [if_pos ⟨rfl, rfl⟩]; exact if_pos (rcv_facts n hn).2.2
omit hn in
theorem duties_later (g : GSem nD τ sig) : ∀ r, 1 ≤ r → (ringRd X).duties g r = ∅ :=
  fun r hr => by dsimp only [ringRd]; rw [if_neg (fun h => by omega)]

omit hn in
theorem expect_bar : (ringRd X).expect (barCell c) 0 = 2 := by
  unfold Schedule.expect Schedule.amountOf; rw [show (ringRd X).duties (barCell c) 0 = {false, true} from by dsimp only [ringRd]; exact if_pos ⟨rfl, rfl⟩]
  rfl
theorem expect_snd : (ringRd X).expect (sndCell c n) 0 = N := by
  unfold Schedule.expect Schedule.amountOf; rw [duties_snd X c n hn, Finset.sum_singleton]; rfl
theorem expect_rcv : (ringRd X).expect (rcvCell c n) 0 = N := by
  unfold Schedule.expect Schedule.amountOf; rw [duties_rcv X c n hn, Finset.sum_singleton]; rfl

theorem payload_snd (b : Bool) : (ringRd X).payload (sndCell c n) 0 b = sndPay X c n := by
  dsimp only [ringRd]; rw [(snd_facts n hn).2.1, if_neg Bool.false_ne_true, (snd_facts n hn).1]
theorem payload_rcv (b : Bool) : (ringRd X).payload (rcvCell c n) 0 b = rcvPay X c n := by
  dsimp only [ringRd]; rw [(rcv_facts n hn).2.1, if_pos rfl, (rcv_facts n hn).1]

omit hn in
theorem rest_bar : bigSep ((ringRd X).duties (barCell c) 0 \ ∅) (fun u => (ringRd X).payload (barCell c) 0 u) = iprop(barPay (F := F) c false ∗ barPay (F := F) c true) := by
  rw [Finset.sdiff_empty, show (ringRd X).duties (barCell c) 0 = {false, true} from by dsimp only [ringRd]; exact if_pos ⟨rfl, rfl⟩,
    bigSep_insert (by decide), bigSep_singleton]; rfl
theorem rest_snd : bigSep ((ringRd X).duties (sndCell c n) 0 \ ∅) (fun u => (ringRd X).payload (sndCell c n) 0 u) = sndPay X c n := by
  rw [Finset.sdiff_empty, duties_snd X c n hn, bigSep_singleton, payload_snd X c n hn]
theorem rest_rcv : bigSep ((ringRd X).duties (rcvCell c n) 0 \ ∅) (fun u => (ringRd X).payload (rcvCell c n) 0 u) = rcvPay X c n := by
  rw [Finset.sdiff_empty, duties_rcv X c n hn, bigSep_singleton, payload_rcv X c n hn]

end Facts

/-! ## What each device owes; the levels -/

/-- The landing credits device `c` still owes when its next copy is `n`. -/
def Ofrom (c : Dev nD) (n : ℕ) : CellTallies nD τ sig Unit := ∑ i ∈ Finset.Ico n 24, tallyAt (rcvCell (dest i c) i) () N
def O₀ (c : Dev nD) : CellTallies nD τ sig Unit := Ofrom c 0 + tallyAt (barCell (nxt c)) () 1 + tallyAt (barCell (prv c)) () 1

theorem Ofrom_step (c : Dev nD) (n : ℕ) (hn : n < 24) : Ofrom c n = Ofrom c (n + 1) + tallyAt (rcvCell (dest n c) n) () N := by
  unfold Ofrom; rw [← Finset.sum_sdiff (Finset.singleton_subset_iff.mpr (Finset.mem_Ico.mpr ⟨Nat.le_refl n, hn⟩)), Finset.sum_singleton]
  congr 2; ext i; simp only [Finset.mem_sdiff, Finset.mem_Ico, Finset.mem_singleton]; omega
theorem Ofrom_end (c : Dev nD) (n : ℕ) (hn : 24 ≤ n) : Ofrom c n = 0 := by
  unfold Ofrom; rw [Finset.Ico_eq_empty_of_le hn]; rfl

def L (g : GSem nD τ sig) : Finset Unit := if g.1.2 = .tc then {()} else ∅
/-- barrier cells at 1, the landing cell of copy `n` at `n + 2`, the rest at 0. -/
def lv (g : GSem nD τ sig) (_ : Unit) : ℕ := match g.2 with
  | .reg _ => 1
  | .dma s => if isOwn s && isRecv s then copyOf s + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (n : ℕ) (hn : n < 24) : lv (rcvCell c n) () = n + 2 := by
  unfold lv; dsimp only; rw [(rcv_facts n hn).2.1, (rcv_facts n hn).2.2, (rcv_facts n hn).1]; rfl

/-- A cell still owed is the landing cell of a copy not yet made. -/
theorem Ofrom_pos (c : Dev nD) (n : ℕ) (g : GSem nD τ sig) (u : Unit) (h : 0 < Ofrom c n g u) :
    ∃ i, n ≤ i ∧ i < 24 ∧ g = rcvCell (dest i c) i := by
  have key : ∀ g u, 0 < Ofrom c n g u → ∃ i, n ≤ i ∧ i < 24 ∧ g = rcvCell (dest i c) i := by
    unfold Ofrom
    refine Finset.sum_induction _ (fun O : CellTallies nD τ sig Unit => ∀ g u, 0 < O g u → ∃ i, n ≤ i ∧ i < 24 ∧ g = rcvCell (dest i c) i)
      (fun A B hA hB g u h => ?_) (fun g u h => absurd h (Nat.lt_irrefl 0)) (fun i hi g u h => ?_)
    · have h' : 0 < A g u + B g u := h
      rcases Nat.eq_zero_or_pos (A g u) with h0 | h0
      · exact hB g u (by omega)
      · exact hA g u h0
    · rw [Finset.mem_Ico] at hi
      refine ⟨i, hi.1, hi.2, ?_⟩
      by_contra hne
      rw [tallyAt_apply, if_neg (fun hh => hne hh.1)] at h
      exact Nat.lt_irrefl 0 h
  exact key g u h

/-- A wait on one of its own cells below the level of everything it still owes. -/
theorem mayWait (c : Dev nD) (sm : SemLoc sig) (n : ℕ) (hlt : lv ((c : Thread nD τ), sm) () < n + 2) :
    (levAts L lv : sProp 𝕄) ⊢ MayWait (c : Thread nD τ) sm () (Ofrom c n) :=
  MayOwe.of_cut (L := L) (lev := lv) (n + 1) (fun p hp => by rw [Finset.mem_singleton.mp hp, L_tc]; exact Finset.mem_singleton_self _)
    (fun g u hg => by
      obtain ⟨i, _, _, rfl⟩ := Ofrom_pos c n g u hg
      rw [L_tc]; exact Finset.mem_singleton_self _)
    (fun p hp => by rw [Finset.mem_singleton.mp hp]; exact Nat.lt_succ_iff.mp hlt)
    (fun g u hg => by
      obtain ⟨i, h1, h2, rfl⟩ := Ofrom_pos c n g u hg
      rw [lv_rcv _ _ h2]; omega)

end Cert.KernelIdeal.Ring
-- ==== Proof.KernelIdeal.Steps.lean ====
/-
One rule per kind of effect the ring's body makes, each over the ring's state: how far the device's copies have gone, how many landings it has
taken, and what it borrowed. The body (module `Body`) is these rules in program order.
-/
module

public import proofs.«01_k».proof.Proof.KernelIdeal.Sched
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Blocks F) (K : GSem nD τ sig → ℕ)

/-! ## The protocol's records, tokens and the ring's state -/

/-- Every cell's invariant, and that every barrier cell's round is open. -/
def recs : sProp 𝕄 :=
  bigSep (Finset.univ : Finset (Dev nD)) fun e => iprop(cellInv ER (ringRd X) (K (barCell e)) (barCell e) ∗ reached ER (barCell e) 0
    ∗ bigSep (Finset.range 24) fun n => iprop(cellInv ER (ringRd X) (K (sndCell e n)) (sndCell e n) ∗ cellInv ER (ringRd X) (K (rcvCell e n)) (rcvCell e n)))
instance recs_persistent : BI.Persistent (recs X K) := by unfold recs; infer_instance

theorem bs_elim {ι : Type} [DecidableEq ι] {s : Finset ι} {i : ι} (hi : i ∈ s) {Φ : ι → sProp 𝕄} : bigSep s Φ ⊢ Φ i := bigSep_elim hi

theorem recs_bar (e : Dev nD) : recs X K ⊢ iprop(cellInv ER (ringRd X) (K (barCell e)) (barCell e) ∗ reached ER (barCell e) 0) := by
  unfold recs
  iintro H
  ihave H := (bs_elim (Finset.mem_univ e)) $$ H
  icases H with ⟨H1, H2, -⟩
  isplitl [H1]; · iexact H1
  iexact H2
theorem recs_dma (e : Dev nD) (n : ℕ) (hn : n < 24) :
    recs X K ⊢ iprop(cellInv ER (ringRd X) (K (sndCell e n)) (sndCell e n) ∗ cellInv ER (ringRd X) (K (rcvCell e n)) (rcvCell e n)) := by
  unfold recs
  iintro H
  ihave H := (bs_elim (Finset.mem_univ e)) $$ H
  icases H with ⟨-, -, H⟩
  iapply (bs_elim (Finset.mem_range.mpr hn)) $$ H

/-- What device `c` spends and keeps for its copy `n`. -/
def sendTok (c : Dev nD) (n : ℕ) : sProp 𝕄 :=
  iprop(dutyTok ER (sndCell c n) 0 false ∗ dutyTok ER (rcvCell (dest n c) n) 0 false ∗ atPos ER (sndCell c n) 0 ∅ 0 ∗ reached ER (sndCell c n) 0)
/-- What device `c` takes its landing `n` with, and what is left of it. -/
def recvTok (c : Dev nD) (n : ℕ) : sProp 𝕄 := iprop(atPos ER (rcvCell c n) 0 ∅ 0 ∗ cred (tallyAt (rcvCell c n) () N))
def recvDone (c : Dev nD) (n : ℕ) : sProp 𝕄 := atPos ER (rcvCell c n) (0 + 1) ∅ 0
/-- The part of the argument block's share that copy `n` (hop 0) borrowed and did not read. -/
def xLeft (c : Dev nD) (n : ℕ) : sProp 𝕄 :=
  if n < 8 then iprop(((xSrc (n % 2) (sub n) c).view.loc (c : Thread nD τ)) ↦[Finset.univ \ (xSrc (n % 2) (sub n) c).view.set]{xq n} X c) else iprop(emp)
/-- The argument block at a share is the elements copy `n` reads and the others. -/
theorem x_split (c : Dev nD) (n : ℕ) (q : PosShare TreeShare) :
    (xPts X c q : sProp 𝕄) ⊣⊢ iprop((((xSrc (n % 2) (sub n) c).view.loc (c : Thread nD τ)) ↦[(xSrc (n % 2) (sub n) c).view.set]{q} X c)
      ∗ (((xSrc (n % 2) (sub n) c).view.loc (c : Thread nD τ)) ↦[Finset.univ \ (xSrc (n % 2) (sub n) c).view.set]{q} X c)) := by
  unfold xPts
  rw [show xM.view.set = Finset.univ from View.set_whole _]
  exact pointsTo_split_subset (Finset.subset_univ _)

/-- Copy `n` made and not yet waited for; and waited for. -/
def flying (c : Dev nD) (n : ℕ) : sProp 𝕄 := iprop(cred (tallyAt (sndCell c n) () N) ∗ atPos ER (sndCell c n) 0 ∅ 0 ∗ xLeft X c n)
def sentBack (c : Dev nD) (n : ℕ) : sProp 𝕄 := iprop(atPos ER (sndCell c n) (0 + 1) ∅ 0 ∗ sndPay X c n ∗ xLeft X c n)

def owesA (c : Dev nD) (O : CellTallies nD τ sig Unit) : sProp 𝕄 := iprop(∃ W, owes (c : Thread nD τ) O W)

/-- Device `c` when its next copy is `s` and its next landing to take is `r`. -/
def St (c : Dev nD) (s r : ℕ) : sProp 𝕄 :=
  iprop(recs X K ∗ levAts L lv ∗ owesA c (Ofrom c s)
    ∗ bigSep (Finset.Ico s 24) (sendTok c) ∗ bigSep (Finset.Ico s 24) (fun n => destPk (F := F) (dest n c) n)
    ∗ bigSep (Finset.range s) (flying X c) ∗ bigSep (Finset.Ico r 24) (recvTok c) ∗ bigSep (Finset.range r) (recvDone c)
    ∗ xPts X c (xr (min s 8)))

/-- Device `c` when it has made every copy, taken every landing, and waited for its first `n` copies. -/
def Back (c : Dev nD) (n : ℕ) : sProp 𝕄 :=
  iprop(recs X K ∗ owesA c 0 ∗ bigSep (Finset.Ico n 24) (flying X c) ∗ bigSep (Finset.range n) (sentBack X c))

section Steps

variable (c : Dev nD) {α : Type} (Q : α → sProp (MT nD τ sig Unit (Elt F) ℕ UU ℕ))

/-! ## Copies -/

theorem send_raw (s : ℕ) (hs : s < 24) {src dst : Memref sig .tc .vmem S256x512 .f32} {sS sR : DmaSem sig} {e : Dev nD}
    (hdst : dst = dstM s) (hS : sS = sndS s) (hR : sR = rcvS s) (he : e = dest s c) {q : PosShare TreeShare} {fs : Buf (Elt F) (src.view.loc (c : Thread nD τ))}
    (hpay : ((src.view.loc (c : Thread nD τ)) ↦[src.view.set]{q} fs : sProp 𝕄) ⊢ sndPay X c s)
    (hval : src.view.read (Elt F) fs = sent X s c)
    {h1 h2 h3} {k : PUnit → Prog (TpuEff nD τ sig (Elt F) Λ₀ .tc) α} :
    iprop(recs X K ∗ ((src.view.loc (c : Thread nD τ)) ↦[src.view.set]{q} fs) ∗ owesA c (Ofrom c s) ∗ sendTok c s ∗ destPk (F := F) (dest s c) s)
      ⊢ iprop(((owesA c (Ofrom c (s + 1)) ∗ cred (tallyAt (sndCell c s) () N) ∗ atPos ER (sndCell c s) 0 ∅ 0)
            -∗ wp frame (wpE (defs₀ (F := F)) 𝒱₀ c none) Set.univ (k ⟨⟩) Q)
          -∗ wp frame (wpE (defs₀ (F := F)) 𝒱₀ c none) Set.univ (.op (.enqueueDma src (.remote (Dev.tc e) dst (.dma sS)) (.dma sR) h1 h2 h3) k) Q) := by
  subst hdst hS hR he
  unfold owesA sendTok destPk
  iintro ⟨#Hrec, Hsrc, ⟨%W, HO⟩, ⟨Ht1, Ht2, Hat, #Hr1⟩, ⟨%Y, Hd⟩, #Hr2⟩ Hk
  ihave HI1 := (recs_dma X K c s hs) $$ Hrec
  icases HI1 with ⟨#HI1, -⟩
  ihave HI2 := (recs_dma X K (dest s c) s hs) $$ Hrec
  icases HI2 with ⟨-, #HI2⟩
  unfold owns
  icases Hd with ⟨%fd, %hfd, Hd⟩
  iapply (Rounds.wp_send_pointsTo 𝒱₀ ER (ringRd X) (c : Thread nD τ) none (c' := (dest s c : Thread nD τ)) (src := src) (dst := dstM s)
      (sS := .dma (sndS s)) (sem := .dma (rcvS s)) (q := q) (fs := fs) (κ₁ := K (sndCell c s)) (κ₂ := K (rcvCell (dest s c) s))
      (r₁ := 0) (r₂ := 0) (d₁ := false) (d₂ := false) (fd := fd)
      (by rw [duties_snd X c s hs]; exact Finset.mem_singleton_self _) (by rw [duties_rcv X (dest s c) s hs]; exact Finset.mem_singleton_self _)
      () () N rfl rfl rfl (Ofrom c (s + 1)) (Ofrom_step c s hs) (W := W)
      (by rw [payload_snd X c s hs]; exact hpay)
      (by
        rw [payload_rcv X (dest s c) s hs]; unfold rcvPay landed owns
        rw [orig_dest, hval]
        iintro H; iexists _; isplitr
        swap; · iexact H
        ipureintro; exact View.read_write_univ _ _)) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Hat

/-- A copy of hop 0: it borrows a share of the argument block. -/
theorem send_x (s : ℕ) (hs : s < 8) {src dst : Memref sig .tc .vmem S256x512 .f32} {sS sR : DmaSem sig} {e : Dev nD}
    (hsrc : src = xSrc (s % 2) (sub s) c) (hdst : dst = dstM s) (hS : sS = sndS s) (hR : sR = rcvS s) (he : e = dest s c)
    {h1 h2 h3} {k : PUnit → Prog (TpuEff nD τ sig (Elt F) Λ₀ .tc) α} :
    St X K c s 0
      ⊢ iprop((St X K c (s + 1) 0 -∗ wp frame (wpE (defs₀ (F := F)) 𝒱₀ c none) Set.univ (k ⟨⟩) Q)
          -∗ wp frame (wpE (defs₀ (F := F)) 𝒱₀ c none) Set.univ (.op (.enqueueDma src (.remote (Dev.tc e) dst (.dma sS)) (.dma sR) h1 h2 h3) k) Q) := by
  subst hsrc
  unfold St
  rw [bigSep_Ico_succ_bot (show s < 24 by omega), bigSep_Ico_succ_bot (show s < 24 by omega), bigSep_range_succ,
    show min s 8 = s by omega, show min (s + 1) 8 = s + 1 by omega]
  iintro ⟨#Hrec, #Hlev, HO, ⟨Ht, Hts⟩, ⟨Hd, Hds⟩, Hf, Hrt, Hrd, Hx⟩ Hk
  ihave Hx := (pointsTo_share (PosShare.mem_left_op_right (xr s))).1 $$ Hx
  icases Hx with ⟨Hxl, Hxr⟩
  ihave Hxl := (x_split X c s (xr s).left).1 $$ Hxl
  icases Hxl with ⟨Hxs, Hxc⟩
  iapply (send_raw X K c Q s (by omega) (src := xSrc (s % 2) (sub s) c) hdst hS hR he (q := xq s) (fs := X c)
      (by unfold sndPay; rw [if_pos hs]) (by unfold sent; rw [show s / 8 = 0 by omega]; rfl)) $$ [HO Ht Hd Hxs]
  · isplitr; · iexact Hrec
    isplitl [Hxs]; · iexact Hxs
    isplitl [HO]; · iexact HO
    isplitl [Ht]; · iexact Ht
    iexact Hd
  iintro ⟨HO, Hc, Hat⟩
  iapply Hk
  isplitr; · iexact Hrec
  isplitr; · iexact Hlev
  isplitl [HO]; · iexact HO
  isplitl [Hts]; · iexact Hts
  isplitl [Hds]; · iexact Hds
  isplitl [Hf Hc Hat Hxc]
  · isplitl [Hc Hat Hxc]
    · unfold flying xLeft; rw [if_pos hs]
      isplitl [Hc]; · iexact Hc
      isplitl [Hat]; · iexact Hat
      iexact Hxc
    iexact Hf
  isplitl [Hrt]; · iexact Hrt
  isplitl [Hrd]; · iexact Hrd
  iexact Hxr

/-- A later copy: it takes the piece holding the partial sum. -/
theorem send_p (s r : ℕ) (hs8 : 8 ≤ s) (hs : s < 24) {src dst : Memref sig .tc .vmem S256x512 .f32} {sS sR : DmaSem sig} {e : Dev nD}
    (hsrc : src = piece (s % 2) (s / 2)) (hdst : dst = dstM s) (hS : sS = sndS s) (hR : sR = rcvS s) (he : e = dest s c)
    {h1 h2 h3} {k : PUnit → Prog (TpuEff nD τ sig (Elt F) Λ₀ .tc) α} :
    iprop(St X K c s r ∗ owns (c : Thread nD τ) (piece (s % 2) (s / 2)) fullShare (sent X s c))
      ⊢ iprop((St X K c (s + 1) r -∗ wp frame (wpE (defs₀ (F := F)) 𝒱₀ c none) Set.univ (k ⟨⟩) Q)
          -∗ wp frame (wpE (defs₀ (F := F)) 𝒱₀ c none) Set.univ (.op (.enqueueDma src (.remote (Dev.tc e) dst (.dma sS)) (.dma sR) h1 h2 h3) k) Q) := by
  subst hsrc
  unfold St
  rw [bigSep_Ico_succ_bot hs, bigSep_Ico_succ_bot hs, bigSep_range_succ, show min s 8 = 8 by omega, show min (s + 1) 8 = 8 by omega]
  iintro ⟨⟨#Hrec, #Hlev, HO, ⟨Ht, Hts⟩, ⟨Hd, Hds⟩, Hf, Hrt, Hrd, Hx⟩, Hp⟩ Hk
  unfold owns
  icases Hp with ⟨%fs, %hfs, Hp⟩
  iapply (send_raw X K c Q s hs (src := piece (s % 2) (s / 2)) hdst hS hR he (q := fullShare) (fs := fs)
      (by
        unfold sndPay; rw [if_neg (by omega)]; unfold owns
        iintro H; iexists fs; isplitr
        · ipureintro; exact hfs
        iexact H) hfs) $$ [HO Ht Hd Hp]
  · isplitr; · iexact Hrec
    isplitl [Hp]; · iexact Hp
    isplitl [HO]; · iexact HO
    isplitl [Ht]; · iexact Ht
    iexact Hd
  iintro ⟨HO, Hc, Hat⟩
  iapply Hk
  isplitr; · iexact Hrec
  isplitr; · iexact Hlev
  isplitl [HO]; · iexact HO
  isplitl [Hts]; · iexact Hts
  isplitl [Hds]; · iexact Hds
  isplitl [Hf Hc Hat]
  · isplitl [Hc Hat]
    · unfold flying xLeft; rw [if_neg (by omega)]
      isplitl [Hc]; · iexact Hc
      isplitl [Hat]; · iexact Hat
      iempintro
    iexact Hf
  isplitl [Hrt]; · iexact Hrt
  isplitl [Hrd]; · iexact Hrd
  iexact Hx

/-! ## Waits -/

/-- A landing taken: the piece comes with what its sender's partial sum was. -/
theorem recv_p (s r : ℕ) (hr : r < 24) (hlt : r < s) {src dst : Memref sig .tc .vmem S256x512 .f32} {sR : DmaSem sig}
    (hR : sR = rcvS r) (hN : dst.view.dmaCredit = N) {h1 h2} {k : PUnit → Prog (TpuEff nD τ sig (Elt F) Λ₀ .tc) α} :
    St X K c s r
      ⊢ iprop(((St X K c s (r + 1) ∗ owns (c : Thread nD τ) (dstM r) fullShare (landed X r c)) -∗ wp frame (wpE (defs₀ (F := F)) 𝒱₀ c none) Set.univ (k ⟨⟩) Q)
          -∗ wp frame (wpE (defs₀ (F := F)) 𝒱₀ c none) Set.univ (.op (.waitDma2 sR src dst h1 h2) k) Q) := by
  subst hR
  unfold St
  rw [bigSep_Ico_succ_bot hr, bigSep_range_succ]
  unfold owesA recvTok
  iintro ⟨#Hrec, #Hlev, ⟨%W, HO⟩, Hts, Hds, Hf, ⟨⟨Hat, Hcr⟩, Hrt⟩, Hrd, Hx⟩ Hk
  ihave HI := (recs_dma X K c r hr) $$ Hrec
  icases HI with ⟨-, #HI⟩
  iapply (Rounds.wp_wait_rest_token 𝒱₀ ER (ringRd X) (c : Thread nD τ) none (κ := K (rcvCell c r))
      (wpE_waitDma2_eq (src := src) (dst := dst) 𝒱₀ (c : Thread nD τ) none Set.univ) (Set.mem_univ _) () (O := Ofrom c s) (W := W) (R := 0) (m := 0) (T := ∅)
      ((Nat.zero_add _).trans (hN.trans (expect_rcv X c r hr).symm))) $$ [Hcr HO Hat]
  · isplitr; · iexact HI
    isplitl [Hcr]; · rw [hN]; iexact Hcr
    isplitl [HO]; · iexact HO
    isplitr
    · iapply (mayWait c (.dma (rcvS r)) s (by have := lv_rcv c r hr; rw [this]; omega)); iexact Hlev
    iexact Hat
  iintro ⟨HO, Hat, -, Hpay⟩
  ihave Hp := (Entails.of_eq (rest_rcv X c r hr)) $$ Hpay
  iapply Hk
  isplitr [Hp]
  · isplitr; · iexact Hrec
    isplitr; · iexact Hlev
    isplitl [HO]; · iexists _; iexact HO
    isplitl [Hts]; · iexact Hts
    isplitl [Hds]; · iexact Hds
    isplitl [Hf]; · iexact Hf
    isplitl [Hrt]; · iexact Hrt
    isplitl [Hat Hrd]
    · isplitl [Hat]; · unfold recvDone; iexact Hat
      iexact Hrd
    iexact Hx
  unfold rcvPay
  iexact Hp

/-- A copy waited for: what it borrowed comes back. -/
theorem send_wait (n : ℕ) (hn : n < 24) {src dst : Memref sig .tc .vmem S256x512 .f32} {sS : DmaSem sig}
    (hS : sS = sndS n) (hN : dst.view.dmaCredit = N) {h1 h2} {k : PUnit → Prog (TpuEff nD τ sig (Elt F) Λ₀ .tc) α} :
    Back X K c n
      ⊢ iprop((Back X K c (n + 1) -∗ wp frame (wpE (defs₀ (F := F)) 𝒱₀ c none) Set.univ (k ⟨⟩) Q)
          -∗ wp frame (wpE (defs₀ (F := F)) 𝒱₀ c none) Set.univ (.op (.waitDma2 sS src dst h1 h2) k) Q) := by
  subst hS
  unfold Back
  rw [bigSep_Ico_succ_bot hn, bigSep_range_succ]
  unfold owesA
  iintro ⟨#Hrec, ⟨%W, HO⟩, ⟨Hf, Hfs⟩, Hb⟩ Hk
  unfold flying
  icases Hf with ⟨Hcr, Hat, Hxl⟩
  ihave HI := (recs_dma X K c n hn) $$ Hrec
  icases HI with ⟨#HI, -⟩
  iapply (Rounds.wp_wait_rest_token 𝒱₀ ER (ringRd X) (c : Thread nD τ) none (κ := K (sndCell c n))
      (wpE_waitDma2_eq (src := src) (dst := dst) 𝒱₀ (c : Thread nD τ) none Set.univ) (Set.mem_univ _) () (O := 0) (W := W) (R := 0) (m := 0) (T := ∅)
      ((Nat.zero_add _).trans (hN.trans (expect_snd X c n hn).symm))) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  ihave Hp := (Entails.of_eq (rest_snd X c n hn)) $$ Hpay
  iapply Hk
  isplitr; · iexact Hrec
  isplitl [HO]; · iexists _; iexact HO
  isplitl [Hfs]; · iexact Hfs
  isplitl [Hat Hp Hxl]
  · unfold sentBack
    isplitl [Hat]; · iexact Hat
    isplitl [Hp]; · iexact Hp
    iexact Hxl
  iexact Hb

/-! ## Loads and stores -/

/-- A load of the argument block, at any share held. -/
theorem load_x (s r : ℕ) {m : Memref sig .tc .vmem S4096x1024 .f32} (hm : m = xM) {lr : LoadRect S4096x1024} {hl : m.view.LoadsAt lr}
    {k : (lr.shape.Idx → Elt F .f32) → Prog (TpuEff nD τ sig (Elt F) Λ₀ .tc) α} {v : lr.shape.Idx → Elt F .f32} (hv : xM.view.readAt (Elt F) lr (X c) = v) :
    St X K c s r
      ⊢ iprop((St X K c s r -∗ wp frame (wpE (defs₀ (F := F)) 𝒱₀ c none) Set.univ (k v) Q)
          -∗ wp frame (wpE (defs₀ (F := F)) 𝒱₀ c none) Set.univ (.op (.load m lr hl) k) Q) := by
  subst hm hv
  unfold St
  iintro ⟨#Hrec, #Hlev, HO, Hts, Hds, Hf, Hrt, Hrd, Hx⟩ Hk
  iapply (wp_load 𝒱₀ (c : Thread nD τ) none Set.univ (m := xM) (r := lr) (S := xM.view.set) (q := xr (min s 8)) (f := X c)
    (by rw [show xM.view.set = Finset.univ from View.set_whole _]; exact Finset.subset_univ _)) $$ Hx
  iintro Hx
  iapply Hk
  isplitr; · iexact Hrec
  isplitr; · iexact Hlev
  isplitl [HO]; · iexact HO
  isplitl [Hts]; · iexact Hts
  isplitl [Hds]; · iexact Hds
  isplitl [Hf]; · iexact Hf
  isplitl [Hrt]; · iexact Hrt
  isplitl [Hrd]; · iexact Hrd
  iexact Hx

/-- A load of a piece through its communication buffer. -/
theorem load_p (d p : ℕ) (Y : Vec F S256x512 .f32) {m : Memref sig .tc .vmem S4x1024x512 .f32} {off : Fin 3 → ℕ}
    (hm : m = comm d) (ho : off = ![p / 4 % 4, 256 * (p % 4), 0]) {hin : ∀ a, off a + S1x256x512.size a ≤ S4x1024x512.size a}
    {hl : m.view.LoadsAt (Rect.unit (s := S4x1024x512) off S1x256x512.size hin).toLoadRect}
    {k : Vec F S1x256x512 .f32 → Prog (TpuEff nD τ sig (Elt F) Λ₀ .tc) α} :
    (owns (c : Thread nD τ) (piece d p) fullShare Y : sProp 𝕄)
      ⊢ iprop((owns (c : Thread nD τ) (piece d p) fullShare Y -∗ wp frame (wpE (defs₀ (F := F)) 𝒱₀ c none) Set.univ (k (shapeCast S1x256x512 Y shapeCasts_S256x512_S1x256x512)) Q)
          -∗ wp frame (wpE (defs₀ (F := F)) 𝒱₀ c none) Set.univ (.op (.load m (Rect.unit (s := S4x1024x512) off S1x256x512.size hin).toLoadRect hl) k) Q) := by
  subst hm ho
  unfold owns
  iintro ⟨%f, %hf, H⟩ Hk
  iapply (wp_load_rect 𝒱₀ (c : Thread nD τ) none Set.univ (m := comm d) (r := pieceR p) (S := (piece d p).view.set) (q := fullShare) (f := f)
    (by rw [Memref.set_view_squeeze])) $$ H
  iintro H
  have hY : ((comm d).access (pieceR p)).read (Elt F) f = shapeCast S1x256x512 Y shapeCasts_S256x512_S1x256x512 := by
    rw [← hf]; exact (shapeCast_shapeCast _ _ _).symm
  rw [hY]
  iapply Hk
  iexists f
  isplitr; · ipureintro; exact hf
  iexact H

/-- A store of a piece through its communication buffer. -/
theorem store_p (d p : ℕ) (Y Z : Vec F S256x512 .f32) {m : Memref sig .tc .vmem S4x1024x512 .f32} {off : Fin 3 → ℕ}
    (hm : m = comm d) (ho : off = ![p / 4 % 4, 256 * (p % 4), 0]) {hin : ∀ a, off a + S1x256x512.size a ≤ S4x1024x512.size a}
    {w : Vec F S1x256x512 .f32} (hw : shapeCast S256x512 w shapeCasts_S1x256x512_S256x512 = Z)
    {hx : (m.access (Rect.unit (s := S4x1024x512) off S1x256x512.size hin)).Stores Finset.univ} {hmm}
    {k : PUnit → Prog (TpuEff nD τ sig (Elt F) Λ₀ .tc) α} :
    (owns (c : Thread nD τ) (piece d p) fullShare Y : sProp 𝕄)
      ⊢ iprop((owns (c : Thread nD τ) (piece d p) fullShare Z -∗ wp frame (wpE (defs₀ (F := F)) 𝒱₀ c none) Set.univ (k ⟨⟩) Q)
          -∗ wp frame (wpE (defs₀ (F := F)) 𝒱₀ c none) Set.univ (.op (.store m (Rect.unit (s := S4x1024x512) off S1x256x512.size hin) w Finset.univ hx hmm) k) Q) := by
  subst hm ho
  unfold owns
  iintro ⟨%f, %hf, H⟩ Hk
  iapply (wp_store 𝒱₀ (c : Thread nD τ) none Set.univ (m := comm d) (r := pieceR p) (w := w) (Mk := Finset.univ) (S := (piece d p).view.set) (f := f)
    (by rw [Memref.set_view_squeeze, View.setOn_univ])) $$ H
  iintro H
  iapply Hk
  iexists _
  isplitr
  swap; · iexact H
  ipureintro
  have h := Memref.read_squeeze_slice (comm d) (pieceR p) (fun _ => rfl) squeezes_S1x256x512_S256x512 shapeCasts_S1x256x512_S256x512
    (((comm d).access (pieceR p)).write (Elt F) f w Finset.univ)
  refine h.trans ?_
  rw [← hw]
  exact congrArg (fun v => shapeCast S256x512 v shapeCasts_S1x256x512_S256x512) (View.read_write_univ _ _)

end Steps

end Cert.KernelIdeal.Ring
-- ==== Proof.KernelIdeal.Rules.lean ====
/-
The steps of module `Steps` as rules on entailments: the state, then what else the device holds, in front of the program. The body's parts are
chains of these. The two buffers of results and of the scale are carried as `Out`.
-/
module

public import proofs.«01_k».proof.Proof.KernelIdeal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`'s core. -/
abbrev W (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ c none) Set.univ p Q

/-- The scale and the result, whole. -/
def Out (c : Dev nD) (g : (cc0_stg1_0 : Ref sig .tc).ty.Contents (Elt F)) (f : (cc0_stg2_0 : Ref sig .tc).ty.Contents (Elt F)) : sProp 𝕄 :=
  iprop(((gM.view.loc (c : Thread nD τ)) ↦[Finset.univ]{fullShare} g) ∗ ((oM.view.loc (c : Thread nD τ)) ↦[Finset.univ]{fullShare} f))

/-- Accumulating into a piece, its squeezed views undone. -/
theorem accum_eq (Y v : Vec F S256x512 .f32) :
    shapeCast S256x512 (shapeCast S1x256x512 (addf (shapeCast S256x512 (shapeCast S1x256x512 Y shapeCasts_S256x512_S1x256x512) shapeCasts_S1x256x512_S256x512)
      (shapeCast S256x512 v shapeCasts_S256x512_S256x512)) shapeCasts_S256x512_S1x256x512) shapeCasts_S1x256x512_S256x512 = addf Y v := by
  simp only [shapeCast_shapeCast, shapeCast_self]

variable {X : Blocks F} {K : GSem nD τ sig → ℕ} {c : Dev nD} {α β : Type} {Q : α → sProp (MT nD τ sig Unit (Elt F) ℕ UU ℕ)} {P R : sProp (MT nD τ sig Unit (Elt F) ℕ UU ℕ)}

theorem r_ret {a : α} (h : P ⊢ Q a) : P ⊢ W c (.ret a) Q := by
  unfold W; rw [wp_ret]
  iintro H; imodintro; iapply h; iexact H

theorem r_bind {p : Prog (TpuEff nD τ sig (Elt F) Λ₀ .tc) β} {k : β → Prog (TpuEff nD τ sig (Elt F) Λ₀ .tc) α}
    (h : P ⊢ W c p (fun b => W c (k b) Q)) : P ⊢ W c (p >>= k) Q := by
  unfold W; rw [wp_bind]; exact h

/-- Bring the second, or the third, of what is held to the front. -/
theorem pull2 (S A B R : sProp 𝕄) : iprop(S ∗ A ∗ B ∗ R) ⊢ iprop(S ∗ B ∗ A ∗ R) := by
  iintro ⟨HS, HA, HB, HR⟩
  isplitl [HS]; · iexact HS
  isplitl [HB]; · iexact HB
  isplitl [HA]; · iexact HA
  iexact HR
theorem pull3 (S A B C R : sProp 𝕄) : iprop(S ∗ A ∗ B ∗ C ∗ R) ⊢ iprop(S ∗ C ∗ A ∗ B ∗ R) := by
  iintro ⟨HS, HA, HB, HC, HR⟩
  isplitl [HS]; · iexact HS
  isplitl [HC]; · iexact HC
  isplitl [HA]; · iexact HA
  isplitl [HB]; · iexact HB
  iexact HR

theorem r_send_x (s : ℕ) (hs : s < 8) {src dst : Memref sig .tc .vmem S256x512 .f32} {sS sR : DmaSem sig} {e : Dev nD}
    (hsrc : src = xSrc (s % 2) (sub s) c) (hdst : dst = dstM s) (hS : sS = sndS s) (hR : sR = rcvS s) (he : e = dest s c)
    {h1 h2 h3} {k : PUnit → Prog (TpuEff nD τ sig (Elt F) Λ₀ .tc) α} (h : iprop(St X K c (s + 1) 0 ∗ R) ⊢ W c (k ⟨⟩) Q) :
    iprop(St X K c s 0 ∗ R) ⊢ W c (.op (.enqueueDma src (.remote (Dev.tc e) dst (.dma sS)) (.dma sR) h1 h2 h3) k) Q := by
  iintro ⟨HS, HR⟩
  iapply (send_x X K c Q s hs hsrc hdst hS hR he) $$ HS
  iintro HS
  iapply h
  isplitl [HS]; · iexact HS
  iexact HR

theorem r_send_p (s r : ℕ) (hs8 : 8 ≤ s) (hs : s < 24) {src dst : Memref sig .tc .vmem S256x512 .f32} {sS sR : DmaSem sig} {e : Dev nD}
    (hsrc : src = piece (s % 2) (s / 2)) (hdst : dst = dstM s) (hS : sS = sndS s) (hR : sR = rcvS s) (he : e = dest s c)
    {h1 h2 h3} {k : PUnit → Prog (TpuEff nD τ sig (Elt F) Λ₀ .tc) α} (h : iprop(St X K c (s + 1) r ∗ R) ⊢ W c (k ⟨⟩) Q) :
    iprop(St X K c s r ∗ owns (c : Thread nD τ) (piece (s % 2) (s / 2)) fullShare (sent X s c) ∗ R)
      ⊢ W c (.op (.enqueueDma src (.remote (Dev.tc e) dst (.dma sS)) (.dma sR) h1 h2 h3) k) Q := by
  iintro ⟨HS, HP, HR⟩
  iapply (send_p X K c Q s r hs8 hs hsrc hdst hS hR he) $$ [HS HP]
  · isplitl [HS]; · iexact HS
    iexact HP
  iintro HS
  iapply h
  isplitl [HS]; · iexact HS
  iexact HR

theorem r_recv (s r : ℕ) (hr : r < 24) (hlt : r < s) {src dst : Memref sig .tc .vmem S256x512 .f32} {sR : DmaSem sig}
    (hR : sR = rcvS r) (hN : dst.view.dmaCredit = N) {h1 h2} {k : PUnit → Prog (TpuEff nD τ sig (Elt F) Λ₀ .tc) α}
    (h : iprop(St X K c s (r + 1) ∗ owns (c : Thread nD τ) (dstM r) fullShare (landed X r c) ∗ R) ⊢ W c (k ⟨⟩) Q) :
    iprop(St X K c s r ∗ R) ⊢ W c (.op (.waitDma2 sR src dst h1 h2) k) Q := by
  iintro ⟨HS, HR⟩
  iapply (recv_p X K c Q s r hr hlt hR hN) $$ HS
  iintro ⟨HS, HP⟩
  iapply h
  isplitl [HS]; · iexact HS
  isplitl [HP]; · iexact HP
  iexact HR

theorem r_wait (n : ℕ) (hn : n < 24) {src dst : Memref sig .tc .vmem S256x512 .f32} {sS : DmaSem sig}
    (hS : sS = sndS n) (hN : dst.view.dmaCredit = N) {h1 h2} {k : PUnit → Prog (TpuEff nD τ sig (Elt F) Λ₀ .tc) α}
    (h : iprop(Back X K c (n + 1) ∗ R) ⊢ W c (k ⟨⟩) Q) :
    iprop(Back X K c n ∗ R) ⊢ W c (.op (.waitDma2 sS src dst h1 h2) k) Q := by
  iintro ⟨HS, HR⟩
  iapply (send_wait X K c Q n hn hS hN) $$ HS
  iintro HS
  iapply h
  isplitl [HS]; · iexact HS
  iexact HR

theorem r_load_x {s r : ℕ} {lr : LoadRect S4096x1024} {hl : xM.view.LoadsAt lr}
    {k : (lr.shape.Idx → Elt F .f32) → Prog (TpuEff nD τ sig (Elt F) Λ₀ .tc) α} (v : lr.shape.Idx → Elt F .f32) (hv : xM.view.readAt (Elt F) lr (X c) = v)
    (h : iprop(St X K c s r ∗ R) ⊢ W c (k v) Q) :
    iprop(St X K c s r ∗ R) ⊢ W c (.op (.load xM lr hl) k) Q := by
  iintro ⟨HS, HR⟩
  iapply (load_x X K c Q s r rfl hv) $$ HS
  iintro HS
  iapply h
  isplitl [HS]; · iexact HS
  iexact HR

variable {S : sProp (MT nD τ sig Unit (Elt F) ℕ UU ℕ)}

theorem r_load_p (d p : ℕ) {Y : Vec F S256x512 .f32} {m : Memref sig .tc .vmem S4x1024x512 .f32} {off : Fin 3 → ℕ}
    (hm : m = comm d) (ho : off = ![p / 4 % 4, 256 * (p % 4), 0]) {hin : ∀ a, off a + S1x256x512.size a ≤ S4x1024x512.size a}
    {hl : m.view.LoadsAt (Rect.unit (s := S4x1024x512) off S1x256x512.size hin).toLoadRect}
    {k : Vec F S1x256x512 .f32 → Prog (TpuEff nD τ sig (Elt F) Λ₀ .tc) α}
    (h : iprop(S ∗ owns (c : Thread nD τ) (piece d p) fullShare Y ∗ R) ⊢ W c (k (shapeCast S1x256x512 Y shapeCasts_S256x512_S1x256x512)) Q) :
    iprop(S ∗ owns (c : Thread nD τ) (piece d p) fullShare Y ∗ R) ⊢ W c (.op (.load m (Rect.unit (s := S4x1024x512) off S1x256x512.size hin).toLoadRect hl) k) Q := by
  iintro ⟨HS, HP, HR⟩
  iapply (load_p c Q d p Y hm ho) $$ HP
  iintro HP
  iapply h
  isplitl [HS]; · iexact HS
  isplitl [HP]; · iexact HP
  iexact HR

theorem r_store_p (d p : ℕ) {Y : Vec F S256x512 .f32} (Z : Vec F S256x512 .f32) {m : Memref sig .tc .vmem S4x1024x512 .f32} {off : Fin 3 → ℕ}
    (hm : m = comm d) (ho : off = ![p / 4 % 4, 256 * (p % 4), 0]) {hin : ∀ a, off a + S1x256x512.size a ≤ S4x1024x512.size a}
    {w : Vec F S1x256x512 .f32} (hw : shapeCast S256x512 w shapeCasts_S1x256x512_S256x512 = Z)
    {hx : (m.access (Rect.unit (s := S4x1024x512) off S1x256x512.size hin)).Stores Finset.univ} {hmm}
    {k : PUnit → Prog (TpuEff nD τ sig (Elt F) Λ₀ .tc) α} (h : iprop(S ∗ owns (c : Thread nD τ) (piece d p) fullShare Z ∗ R) ⊢ W c (k ⟨⟩) Q) :
    iprop(S ∗ owns (c : Thread nD τ) (piece d p) fullShare Y ∗ R)
      ⊢ W c (.op (.store m (Rect.unit (s := S4x1024x512) off S1x256x512.size hin) w Finset.univ hx hmm) k) Q := by
  iintro ⟨HS, HP, HR⟩
  iapply (store_p c Q d p Y Z hm ho hw) $$ HP
  iintro HP
  iapply h
  isplitl [HS]; · iexact HS
  isplitl [HP]; · iexact HP
  iexact HR

variable {g : (cc0_stg1_0 : Ref sig .tc).ty.Contents (Elt F)} {f : (cc0_stg2_0 : Ref sig .tc).ty.Contents (Elt F)}

theorem r_load_g {lr : LoadRect S1x1024} {hl : gM.view.LoadsAt lr} {k : (lr.shape.Idx → Elt F .f32) → Prog (TpuEff nD τ sig (Elt F) Λ₀ .tc) α}
    (h : iprop(S ∗ Out c g f ∗ R) ⊢ W c (k (gM.view.readAt (Elt F) lr g)) Q) :
    iprop(S ∗ Out c g f ∗ R) ⊢ W c (.op (.load gM lr hl) k) Q := by
  unfold Out at h ⊢
  iintro ⟨HS, ⟨Hg, Ho⟩, HR⟩
  iapply (wp_load 𝒱₀ (c : Thread nD τ) none Set.univ (m := gM) (r := lr) (S := Finset.univ) (q := fullShare) (f := g) (Finset.subset_univ _)) $$ Hg
  iintro Hg
  iapply h
  isplitl [HS]; · iexact HS
  isplitl [Hg Ho]
  · isplitl [Hg]; · iexact Hg
    iexact Ho
  iexact HR

theorem r_load_o {lr : LoadRect S1024x1024} {hl : oM.view.LoadsAt lr} {k : (lr.shape.Idx → Elt F .f32) → Prog (TpuEff nD τ sig (Elt F) Λ₀ .tc) α}
    (h : iprop(S ∗ Out c g f ∗ R) ⊢ W c (k (oM.view.readAt (Elt F) lr f)) Q) :
    iprop(S ∗ Out c g f ∗ R) ⊢ W c (.op (.load oM lr hl) k) Q := by
  unfold Out at h ⊢
  iintro ⟨HS, ⟨Hg, Ho⟩, HR⟩
  iapply (wp_load 𝒱₀ (c : Thread nD τ) none Set.univ (m := oM) (r := lr) (S := Finset.univ) (q := fullShare) (f := f) (Finset.subset_univ _)) $$ Ho
  iintro Ho
  iapply h
  isplitl [HS]; · iexact HS
  isplitl [Hg Ho]
  · isplitl [Hg]; · iexact Hg
    iexact Ho
  iexact HR

theorem r_store_o {r : Rect S1024x1024} {w w' : r.shape.Idx → Elt F .f32} (hw : w = w') {hx : (oM.access r).Stores Finset.univ} {hmm}
    {k : PUnit → Prog (TpuEff nD τ sig (Elt F) Λ₀ .tc) α}
    (h : iprop(S ∗ Out c g ((oM.access r).write (Elt F) f w' Finset.univ) ∗ R) ⊢ W c (k ⟨⟩) Q) :
    iprop(S ∗ Out c g f ∗ R) ⊢ W c (.op (.store oM r w Finset.univ hx hmm) k) Q := by
  subst hw
  unfold Out at h ⊢
  iintro ⟨HS, ⟨Hg, Ho⟩, HR⟩
  iapply (wp_store 𝒱₀ (c : Thread nD τ) none Set.univ (m := oM) (r := r) (w := w) (Mk := Finset.univ) (S := Finset.univ) (f := f) (Finset.subset_univ _)) $$ Ho
  iintro Ho
  iapply h
  isplitl [HS]; · iexact HS
  isplitl [Hg Ho]
  · isplitl [Hg]; · iexact Hg
    iexact Ho
  iexact HR

end Cert.KernelIdeal.Ring
-- ==== Proof.KernelIdeal.Parts.lean ====
/-
The body's parts, each in its own rule: what the device holds when it starts, and what it holds when it returns. The words a part returns are
not constrained, since only the device number reaches an address.
-/
module

public import proofs.«01_k».proof.Proof.KernelIdeal.Rules

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body at the buffers and semaphores it runs on. -/
abbrev on {β : Type 1} (p : (arg0 : Memref sig .tc .vmem S4096x1024 .f32) → arg0.IsWhole → (arg1 : Memref sig .tc .vmem S1x1024 .f32) → arg1.IsWhole →
    (arg2 : Memref sig .tc .vmem S1024x1024 .f32) → arg2.IsWhole → (arg3 : Memref sig .tc .vmem S4x1024x512 .f32) → arg3.IsWhole →
    (arg4 : Memref sig .tc .vmem S4x1024x512 .f32) → arg4.IsWhole → DmaSems sig S3x4 → DmaSems sig S3x4 → DmaSems sig S3x4 → DmaSems sig S3x4 → β) : β :=
  p xM (Memref.isWhole_whole _) gM (Memref.isWhole_whole _) oM (Memref.isWhole_whole _) (Memref.whole cc0_scratch0) (Memref.isWhole_whole _)
    (Memref.whole cc0_scratch1) (Memref.isWhole_whole _) cc0_scratch2 cc0_scratch3 cc0_scratch4 cc0_scratch5

section Parts

variable {X : Blocks F} {K : GSem nD τ sig → ℕ} {c : Dev nD} {R : sProp (MT nD τ sig Unit (Elt F) ℕ UU ℕ)}

/-- A piece the device holds with what landed there, and with the partial sum that goes on from there. -/
abbrev pL (X : Blocks F) (c : Dev nD) (r : ℕ) : sProp 𝕄 := owns (c : Thread nD τ) (dstM r) fullShare (landed X r c)

/-! ### Hop 0's copies -/

theorem part2 (v2 v24 v30 : BitVec 32) {Q} (h : ∀ a b d, iprop(St X K c 1 0 ∗ R) ⊢ Q ⟨a, b, d⟩) :
    iprop(St X K c 0 0 ∗ R) ⊢ W c (on (k0_part2 (F := F)) c v2 v24 v30) Q := by
  rw [k0_part2_eq_skeleton]
  dsimp only [on, k0_part2_skel, Prog.lift, Prog.bind_op, Prog.bind_ret, Prog.pure_eq_ret]
  exact r_send_x 0 (by decide) (by rfl) (by rfl) (by rfl) (by rfl) (by clear h; revert c; decide) (r_ret (h _ _ _))

theorem part3 (v13 v24 v40 v51 v63 : BitVec 32) {Q} (h : iprop(St X K c 3 0 ∗ R) ⊢ Q ⟨⟩) :
    iprop(St X K c 1 0 ∗ R) ⊢ W c (on (k0_part3 (F := F)) c v13 v24 v40 v51 v63) Q := by
  rw [k0_part3_eq_skeleton]
  dsimp only [on, k0_part3_skel, Prog.lift, Prog.bind_op, Prog.bind_ret, Prog.pure_eq_ret]
  exact r_send_x 1 (by decide) (by rfl) (by rfl) (by rfl) (by rfl) (by clear h; revert c; decide)
    (r_send_x 2 (by decide) (by rfl) (by rfl) (by rfl) (by rfl) (by clear h; revert c; decide) (r_ret h))

theorem part4 (v13 v24 v40 v51 : BitVec 32) {Q} (h : ∀ a, iprop(St X K c 6 0 ∗ R) ⊢ Q a) :
    iprop(St X K c 3 0 ∗ R) ⊢ W c (on (k0_part4 (F := F)) c v13 v24 v40 v51) Q := by
  rw [k0_part4_eq_skeleton]
  dsimp only [on, k0_part4_skel, Prog.lift, Prog.bind_op, Prog.bind_ret, Prog.pure_eq_ret]
  exact r_send_x 3 (by decide) (by rfl) (by rfl) (by rfl) (by rfl) (by clear h; revert c; decide)
    (r_send_x 4 (by decide) (by rfl) (by rfl) (by rfl) (by rfl) (by clear h; revert c; decide)
      (r_send_x 5 (by decide) (by rfl) (by rfl) (by rfl) (by rfl) (by clear h; revert c; decide) (r_ret (h _))))

theorem part5 (v2 v13 v24 v51 v118 : BitVec 32) {Q} (h : ∀ a b d e, iprop(St X K c 8 0 ∗ R) ⊢ Q ⟨a, b, d, e⟩) :
    iprop(St X K c 6 0 ∗ R) ⊢ W c (on (k0_part5 (F := F)) c v2 v13 v24 v51 v118) Q := by
  rw [k0_part5_eq_skeleton]
  dsimp only [on, k0_part5_skel, Prog.lift, Prog.bind_op, Prog.bind_ret, Prog.pure_eq_ret]
  exact r_send_x 6 (by decide) (by rfl) (by rfl) (by rfl) (by rfl) (by clear h; revert c; decide)
    (r_send_x 7 (by decide) (by rfl) (by rfl) (by rfl) (by rfl) (by clear h; revert c; decide) (r_ret (h _ _ _ _)))

/-! ### Hop 1's copies: what hop 0 landed, plus the device's own block -/

theorem part6 (v2 v24 v143 v144 : BitVec 32) (v145 v146 : BitVec 1) {Q}
    (h : ∀ a b, iprop(St X K c 8 1 ∗ pL X c 0 ∗ R) ⊢ Q ⟨a, b, k0_pay1 (xTerm X 0 0 0 c), k0_pay2 (xTerm X 1 0 0 c)⟩) :
    iprop(St X K c 8 0 ∗ R) ⊢ W c (on (k0_part6 (F := F)) c v2 v24 v143 v144 v145 v146) Q := by
  rw [k0_part6_eq_skeleton]
  dsimp only [on, k0_part6_skel, Prog.lift, Prog.bind_op, Prog.bind_ret, Prog.pure_eq_ret]
  exact r_load_x (xTerm X 0 0 0 c) (by rfl) (r_load_x (xTerm X 1 0 0 c) (by rfl)
    (r_recv 8 0 (by decide) (by decide) (by rfl) (by rfl) (r_ret (h _ _))))

theorem part7 (v13 v24 : BitVec 32) {Q}
    (h : iprop(St X K c 9 2 ∗ pL X c 1 ∗ R)
      ⊢ Q (k0_pay4 (k0_pay2 (xTerm X 1 0 0 c)) (shapeCast S1x256x512 (landed X 1 c) shapeCasts_S256x512_S1x256x512))) :
    iprop(St X K c 8 1 ∗ pL X c 0 ∗ R) ⊢ W c (on (k0_part7 (F := F)) c v13 v24 (k0_pay1 (xTerm X 0 0 0 c)) (k0_pay2 (xTerm X 1 0 0 c))) Q := by
  rw [k0_part7_eq_skeleton]
  dsimp only [on, k0_part7_skel, Prog.lift, Prog.bind_op, Prog.bind_ret, Prog.pure_eq_ret]
  exact r_load_p 0 4 (by rfl) (by rfl) (r_load_p 0 4 (by rfl) (by rfl) (r_store_p 0 4 (sent X 8 c) (by rfl) (by rfl) (by exact (accum_eq (landed X 0 c) (xTerm X 0 0 0 c)).trans rfl)
    (r_send_p 8 1 (by decide) (by decide) (by rfl) (by rfl) (by rfl) (by rfl) (by clear h; revert c; decide)
      (r_recv 9 1 (by decide) (by decide) (by rfl) (by rfl) (r_load_p 1 4 (by rfl) (by rfl) (r_ret h))))))

theorem part8 (v13 v24 v151 v163 : BitVec 32) {Q}
    (h : iprop(St X K c 10 2 ∗ R) ⊢ Q ⟨k0_pay6 (xTerm X 0 0 1 c), k0_pay7 (xTerm X 1 0 1 c)⟩) :
    iprop(St X K c 9 2 ∗ pL X c 1 ∗ R) ⊢ W c (on (k0_part8 (F := F)) c v13 v24 v151 v163
      (k0_pay4 (k0_pay2 (xTerm X 1 0 0 c)) (shapeCast S1x256x512 (landed X 1 c) shapeCasts_S256x512_S1x256x512))) Q := by
  rw [k0_part8_eq_skeleton]
  dsimp only [on, k0_part8_skel, Prog.lift, Prog.bind_op, Prog.bind_ret, Prog.pure_eq_ret]
  exact r_load_p 1 4 (by rfl) (by rfl) (r_store_p 1 4 (sent X 9 c) (by rfl) (by rfl) (by exact (accum_eq (landed X 1 c) (xTerm X 1 0 0 c)).trans rfl)
    (r_send_p 9 2 (by decide) (by decide) (by rfl) (by rfl) (by rfl) (by rfl) (by clear h; revert c; decide)
      (r_load_x (xTerm X 0 0 1 c) (by rfl) (r_load_x (xTerm X 1 0 1 c) (by rfl) (r_ret h)))))

theorem part9 (v13 v24 : BitVec 32) {Q} (h : iprop(St X K c 11 4 ∗ pL X c 3 ∗ R) ⊢ Q ⟨⟩) :
    iprop(St X K c 10 2 ∗ R) ⊢ W c (on (k0_part9 (F := F)) c v13 v24 (k0_pay6 (xTerm X 0 0 1 c))) Q := by
  rw [k0_part9_eq_skeleton]
  dsimp only [on, k0_part9_skel, Prog.lift, Prog.bind_op, Prog.bind_ret, Prog.pure_eq_ret]
  exact r_recv 10 2 (by decide) (by decide) (by rfl) (by rfl) (r_load_p 0 5 (by rfl) (by rfl) (r_load_p 0 5 (by rfl) (by rfl)
    (r_store_p 0 5 (sent X 10 c) (by rfl) (by rfl) (by exact (accum_eq (landed X 2 c) (xTerm X 0 0 1 c)).trans rfl)
      (r_send_p 10 3 (by decide) (by decide) (by rfl) (by rfl) (by rfl) (by rfl) (by clear h; revert c; decide)
        (r_recv 11 3 (by decide) (by decide) (by rfl) (by rfl) (r_ret h))))))

theorem part10 (v13 v24 v151 v163 : BitVec 32) {Q}
    (h : iprop(St X K c 12 4 ∗ R) ⊢ Q ⟨k0_pay10 (xTerm X 0 0 2 c), k0_pay11 (xTerm X 1 0 2 c)⟩) :
    iprop(St X K c 11 4 ∗ pL X c 3 ∗ R) ⊢ W c (on (k0_part10 (F := F)) c v13 v24 v151 v163 (k0_pay7 (xTerm X 1 0 1 c))) Q := by
  rw [k0_part10_eq_skeleton]
  dsimp only [on, k0_part10_skel, Prog.lift, Prog.bind_op, Prog.bind_ret, Prog.pure_eq_ret]
  exact r_load_p 1 5 (by rfl) (by rfl)
      (r_load_p 1 5 (by rfl) (by rfl)
      (r_store_p 1 5 (sent X 11 c) (by rfl) (by rfl) (by exact (accum_eq (landed X 3 c) (xTerm X 1 0 1 c)).trans rfl)
      (r_send_p 11 4 (by decide) (by decide) (by rfl) (by rfl) (by rfl) (by rfl) (by clear h; revert c; decide)
      (r_load_x (xTerm X 0 0 2 c) (by rfl)
      (r_load_x (xTerm X 1 0 2 c) (by rfl)
      (r_ret h))))))

theorem part11 (v13 v24 : BitVec 32) {Q}
    (h : iprop(St X K c 13 5 ∗ R) ⊢ Q ⟨⟩) :
    iprop(St X K c 12 4 ∗ R) ⊢ W c (on (k0_part11 (F := F)) c v13 v24 (k0_pay10 (xTerm X 0 0 2 c))) Q := by
  rw [k0_part11_eq_skeleton]
  dsimp only [on, k0_part11_skel, Prog.lift, Prog.bind_op, Prog.bind_ret, Prog.pure_eq_ret]
  exact r_recv 12 4 (by decide) (by decide) (by rfl) (by rfl)
      (r_load_p 0 6 (by rfl) (by rfl)
      (r_load_p 0 6 (by rfl) (by rfl)
      (r_store_p 0 6 (sent X 12 c) (by rfl) (by rfl) (by exact (accum_eq (landed X 4 c) (xTerm X 0 0 2 c)).trans rfl)
      (r_send_p 12 5 (by decide) (by decide) (by rfl) (by rfl) (by rfl) (by rfl) (by clear h; revert c; decide)
      (r_ret h)))))

theorem part12 (v13 v151 v163 : BitVec 32) {Q}
    (h : ∀ w, iprop(St X K c 14 6 ∗ R) ⊢ Q ⟨k0_pay14 (xTerm X 0 0 3 c), k0_pay15 (xTerm X 1 0 3 c), w⟩) :
    iprop(St X K c 13 5 ∗ R) ⊢ W c (on (k0_part12 (F := F)) c v13 v151 v163 (k0_pay11 (xTerm X 1 0 2 c))) Q := by
  rw [k0_part12_eq_skeleton]
  dsimp only [on, k0_part12_skel, Prog.lift, Prog.bind_op, Prog.bind_ret, Prog.pure_eq_ret]
  exact r_recv 13 5 (by decide) (by decide) (by rfl) (by rfl)
      (r_load_p 1 6 (by rfl) (by rfl)
      (r_load_p 1 6 (by rfl) (by rfl)
      (r_store_p 1 6 (sent X 13 c) (by rfl) (by rfl) (by exact (accum_eq (landed X 5 c) (xTerm X 1 0 2 c)).trans rfl)
      (r_send_p 13 6 (by decide) (by decide) (by rfl) (by rfl) (by rfl) (by rfl) (by clear h; revert c; decide)
      (r_load_x (xTerm X 0 0 3 c) (by rfl)
      (r_load_x (xTerm X 1 0 3 c) (by rfl)
      (r_ret (h _))))))))

theorem part13 (v13 v24 w : BitVec 32) {Q}
    (h : iprop(St X K c 15 7 ∗ R) ⊢ Q ⟨⟩) :
    iprop(St X K c 14 6 ∗ R) ⊢ W c (on (k0_part13 (F := F)) c v13 v24 (k0_pay14 (xTerm X 0 0 3 c)) w) Q := by
  rw [k0_part13_eq_skeleton]
  dsimp only [on, k0_part13_skel, Prog.lift, Prog.bind_op, Prog.bind_ret, Prog.pure_eq_ret]
  exact r_recv 14 6 (by decide) (by decide) (by rfl) (by rfl)
      (r_load_p 0 7 (by rfl) (by rfl)
      (r_load_p 0 7 (by rfl) (by rfl)
      (r_store_p 0 7 (sent X 14 c) (by rfl) (by rfl) (by exact (accum_eq (landed X 6 c) (xTerm X 0 0 3 c)).trans rfl)
      (r_send_p 14 7 (by decide) (by decide) (by rfl) (by rfl) (by rfl) (by rfl) (by clear h; revert c; decide)
      (r_ret h)))))

theorem part14 (v2 v13 : BitVec 32) {Q}
    (h : ∀ a b d, iprop(St X K c 16 8 ∗ R) ⊢ Q ⟨a, b, d⟩) :
    iprop(St X K c 15 7 ∗ R) ⊢ W c (on (k0_part14 (F := F)) c v2 v13 (k0_pay15 (xTerm X 1 0 3 c))) Q := by
  rw [k0_part14_eq_skeleton]
  dsimp only [on, k0_part14_skel, Prog.lift, Prog.bind_op, Prog.bind_ret, Prog.pure_eq_ret]
  exact r_recv 15 7 (by decide) (by decide) (by rfl) (by rfl)
      (r_load_p 1 7 (by rfl) (by rfl)
      (r_load_p 1 7 (by rfl) (by rfl)
      (r_store_p 1 7 (sent X 15 c) (by rfl) (by rfl) (by exact (accum_eq (landed X 7 c) (xTerm X 1 0 3 c)).trans rfl)
      (r_send_p 15 8 (by decide) (by decide) (by rfl) (by rfl) (by rfl) (by rfl) (by clear h; revert c; decide)
      (r_ret (h _ _ _))))))

/-! ### Hop 2's copies -/

theorem part15 (v2 v24 v391 v392 : BitVec 32) (v397 : BitVec 1) {Q}
    (h : ∀ a b, iprop(St X K c 16 9 ∗ pL X c 8 ∗ R) ⊢ Q ⟨a, b, k0_pay18 (xTerm X 0 1 0 c), k0_pay19 (xTerm X 1 1 0 c)⟩) :
    iprop(St X K c 16 8 ∗ R) ⊢ W c (on (k0_part15 (F := F)) c v2 v24 v391 v392 v397) Q := by
  rw [k0_part15_eq_skeleton]
  dsimp only [on, k0_part15_skel, Prog.lift, Prog.bind_op, Prog.bind_ret, Prog.pure_eq_ret]
  exact r_load_x (xTerm X 0 1 0 c) (by rfl)
      (r_load_x (xTerm X 1 1 0 c) (by rfl)
      (r_recv 16 8 (by decide) (by decide) (by rfl) (by rfl)
      (r_ret (h _ _))))

theorem part16 (v13 v24 : BitVec 32) {Q}
    (h : iprop(St X K c 17 10 ∗ pL X c 9 ∗ R) ⊢ Q (shapeCast S1x256x512 (landed X 9 c) shapeCasts_S256x512_S1x256x512)) :
    iprop(St X K c 16 9 ∗ pL X c 8 ∗ R) ⊢ W c (on (k0_part16 (F := F)) c v13 v24 (k0_pay18 (xTerm X 0 1 0 c))) Q := by
  rw [k0_part16_eq_skeleton]
  dsimp only [on, k0_part16_skel, Prog.lift, Prog.bind_op, Prog.bind_ret, Prog.pure_eq_ret]
  exact r_load_p 0 8 (by rfl) (by rfl)
      (r_load_p 0 8 (by rfl) (by rfl)
      (r_store_p 0 8 (sent X 16 c) (by rfl) (by rfl) (by exact (accum_eq (landed X 8 c) (xTerm X 0 1 0 c)).trans rfl)
      (r_send_p 16 9 (by decide) (by decide) (by rfl) (by rfl) (by rfl) (by rfl) (by clear h; revert c; decide)
      (r_recv 17 9 (by decide) (by decide) (by rfl) (by rfl)
      (r_load_p 1 8 (by rfl) (by rfl)
      (r_ret h))))))

theorem part17 (v13 v24 v399 v411 : BitVec 32) {Q}
    (h : iprop(St X K c 18 10 ∗ R) ⊢ Q ⟨k0_pay22 (xTerm X 0 1 1 c), k0_pay23 (xTerm X 1 1 1 c)⟩) :
    iprop(St X K c 17 10 ∗ pL X c 9 ∗ R) ⊢ W c (on (k0_part17 (F := F)) c v13 v24 v399 v411 (k0_pay19 (xTerm X 1 1 0 c)) (shapeCast S1x256x512 (landed X 9 c) shapeCasts_S256x512_S1x256x512)) Q := by
  rw [k0_part17_eq_skeleton]
  dsimp only [on, k0_part17_skel, Prog.lift, Prog.bind_op, Prog.bind_ret, Prog.pure_eq_ret]
  exact r_load_p 1 8 (by rfl) (by rfl)
      (r_store_p 1 8 (sent X 17 c) (by rfl) (by rfl) (by exact (accum_eq (landed X 9 c) (xTerm X 1 1 0 c)).trans rfl)
      (r_send_p 17 10 (by decide) (by decide) (by rfl) (by rfl) (by rfl) (by rfl) (by clear h; revert c; decide)
      (r_load_x (xTerm X 0 1 1 c) (by rfl)
      (r_load_x (xTerm X 1 1 1 c) (by rfl)
      (r_ret h)))))

theorem part18 (v13 v24 : BitVec 32) {Q}
    (h : iprop(St X K c 19 11 ∗ R) ⊢ Q ⟨⟩) :
    iprop(St X K c 18 10 ∗ R) ⊢ W c (on (k0_part18 (F := F)) c v13 v24 (k0_pay22 (xTerm X 0 1 1 c))) Q := by
  rw [k0_part18_eq_skeleton]
  dsimp only [on, k0_part18_skel, Prog.lift, Prog.bind_op, Prog.bind_ret, Prog.pure_eq_ret]
  exact r_recv 18 10 (by decide) (by decide) (by rfl) (by rfl)
      (r_load_p 0 9 (by rfl) (by rfl)
      (r_load_p 0 9 (by rfl) (by rfl)
      (r_store_p 0 9 (sent X 18 c) (by rfl) (by rfl) (by exact (accum_eq (landed X 10 c) (xTerm X 0 1 1 c)).trans rfl)
      (r_send_p 18 11 (by decide) (by decide) (by rfl) (by rfl) (by rfl) (by rfl) (by clear h; revert c; decide)
      (r_ret h)))))

theorem part19 (v13 v399 v411 : BitVec 32) {Q}
    (h : iprop(St X K c 20 12 ∗ R) ⊢ Q ⟨k0_pay26 (xTerm X 0 1 2 c), k0_pay27 (xTerm X 1 1 2 c)⟩) :
    iprop(St X K c 19 11 ∗ R) ⊢ W c (on (k0_part19 (F := F)) c v13 v399 v411 (k0_pay23 (xTerm X 1 1 1 c))) Q := by
  rw [k0_part19_eq_skeleton]
  dsimp only [on, k0_part19_skel, Prog.lift, Prog.bind_op, Prog.bind_ret, Prog.pure_eq_ret]
  exact r_recv 19 11 (by decide) (by decide) (by rfl) (by rfl)
      (r_load_p 1 9 (by rfl) (by rfl)
      (r_load_p 1 9 (by rfl) (by rfl)
      (r_store_p 1 9 (sent X 19 c) (by rfl) (by rfl) (by exact (accum_eq (landed X 11 c) (xTerm X 1 1 1 c)).trans rfl)
      (r_send_p 19 12 (by decide) (by decide) (by rfl) (by rfl) (by rfl) (by rfl) (by clear h; revert c; decide)
      (r_load_x (xTerm X 0 1 2 c) (by rfl)
      (r_load_x (xTerm X 1 1 2 c) (by rfl)
      (r_ret h)))))))

theorem part20 (v24 : BitVec 32) {Q}
    (h : iprop(St X K c 21 13 ∗ R) ⊢ Q ⟨⟩) :
    iprop(St X K c 20 12 ∗ R) ⊢ W c (on (k0_part20 (F := F)) c v24 (k0_pay26 (xTerm X 0 1 2 c))) Q := by
  rw [k0_part20_eq_skeleton]
  dsimp only [on, k0_part20_skel, Prog.lift, Prog.bind_op, Prog.bind_ret, Prog.pure_eq_ret]
  exact r_recv 20 12 (by decide) (by decide) (by rfl) (by rfl)
      (r_load_p 0 10 (by rfl) (by rfl)
      (r_load_p 0 10 (by rfl) (by rfl)
      (r_store_p 0 10 (sent X 20 c) (by rfl) (by rfl) (by exact (accum_eq (landed X 12 c) (xTerm X 0 1 2 c)).trans rfl)
      (r_send_p 20 13 (by decide) (by decide) (by rfl) (by rfl) (by rfl) (by rfl) (by clear h; revert c; decide)
      (r_ret h)))))

theorem part21 (v13 v399 : BitVec 32) {Q}
    (h : iprop(St X K c 22 14 ∗ R) ⊢ Q (k0_pay30 (xTerm X 0 1 3 c))) :
    iprop(St X K c 21 13 ∗ R) ⊢ W c (on (k0_part21 (F := F)) c v13 v399 (k0_pay27 (xTerm X 1 1 2 c))) Q := by
  rw [k0_part21_eq_skeleton]
  dsimp only [on, k0_part21_skel, Prog.lift, Prog.bind_op, Prog.bind_ret, Prog.pure_eq_ret]
  exact r_recv 21 13 (by decide) (by decide) (by rfl) (by rfl)
      (r_load_p 1 10 (by rfl) (by rfl)
      (r_load_p 1 10 (by rfl) (by rfl)
      (r_store_p 1 10 (sent X 21 c) (by rfl) (by rfl) (by exact (accum_eq (landed X 13 c) (xTerm X 1 1 2 c)).trans rfl)
      (r_send_p 21 14 (by decide) (by decide) (by rfl) (by rfl) (by rfl) (by rfl) (by clear h; revert c; decide)
      (r_load_x (xTerm X 0 1 3 c) (by rfl)
      (r_ret h))))))

theorem part22 (v24 v411 : BitVec 32) {Q}
    (h : iprop(St X K c 22 15 ∗ owns (c : Thread nD τ) (dstM 14) fullShare (sent X 22 c) ∗ R) ⊢ Q (k0_pay31 (xTerm X 1 1 3 c))) :
    iprop(St X K c 22 14 ∗ R) ⊢ W c (on (k0_part22 (F := F)) c v24 v411 (k0_pay30 (xTerm X 0 1 3 c))) Q := by
  rw [k0_part22_eq_skeleton]
  dsimp only [on, k0_part22_skel, Prog.lift, Prog.bind_op, Prog.bind_ret, Prog.pure_eq_ret]
  exact r_load_x (xTerm X 1 1 3 c) (by rfl)
      (r_recv 22 14 (by decide) (by decide) (by rfl) (by rfl)
      (r_load_p 0 11 (by rfl) (by rfl)
      (r_load_p 0 11 (by rfl) (by rfl)
      (r_store_p 0 11 (sent X 22 c) (by rfl) (by rfl) (by exact (accum_eq (landed X 14 c) (xTerm X 0 1 3 c)).trans rfl)
      (r_ret h)))))

theorem part23 (v13 : BitVec 32) {Q}
    (h : iprop(St X K c 23 16 ∗ owns (c : Thread nD τ) (dstM 15) fullShare (sent X 23 c) ∗ R) ⊢ Q ⟨⟩) :
    iprop(St X K c 22 15 ∗ owns (c : Thread nD τ) (dstM 14) fullShare (sent X 22 c) ∗ R) ⊢ W c (on (k0_part23 (F := F)) c v13 (k0_pay31 (xTerm X 1 1 3 c))) Q := by
  rw [k0_part23_eq_skeleton]
  dsimp only [on, k0_part23_skel, Prog.lift, Prog.bind_op, Prog.bind_ret, Prog.pure_eq_ret]
  exact r_send_p 22 15 (by decide) (by decide) (by rfl) (by rfl) (by rfl) (by rfl) (by clear h; revert c; decide)
      (r_recv 23 15 (by decide) (by decide) (by rfl) (by rfl)
      (r_load_p 1 11 (by rfl) (by rfl)
      (r_load_p 1 11 (by rfl) (by rfl)
      (r_store_p 1 11 (sent X 23 c) (by rfl) (by rfl) (by exact (accum_eq (landed X 15 c) (xTerm X 1 1 3 c)).trans rfl)
      (r_ret h)))))

theorem part24 (v2 : BitVec 32) {Q}
    (h : ∀ a b, iprop(St X K c 24 16 ∗ R) ⊢ Q ⟨a, b, k0_pay34 (xTerm X 0 2 0 c), k0_pay35 (xTerm X 1 2 0 c)⟩) :
    iprop(St X K c 23 16 ∗ owns (c : Thread nD τ) (dstM 15) fullShare (sent X 23 c) ∗ R) ⊢ W c (on (k0_part24 (F := F)) c v2) Q := by
  rw [k0_part24_eq_skeleton]
  dsimp only [on, k0_part24_skel, Prog.lift, Prog.bind_op, Prog.bind_ret, Prog.pure_eq_ret]
  exact r_send_p 23 16 (by decide) (by decide) (by rfl) (by rfl) (by rfl) (by rfl) (by clear h; revert c; decide)
      (r_load_x (xTerm X 0 2 0 c) (by rfl)
      (r_load_x (xTerm X 1 2 0 c) (by rfl)
      (r_ret (h _ _))))

/-! ### The finished sums, normalised and stored -/

/-- The rows of result `k` holds: the finished sums of both directions side by side, normalised and scaled. -/
def rows (X : Blocks F) (g : (cc0_stg1_0 : Ref sig .tc).ty.Contents (Elt F)) (c : Dev nD) (k : Fin 4) : Vec F S256x1024 .f32 :=
  k0_pay48 (k0_pay46 (xTerm X 0 2 k c)) (k0_pay47 (xTerm X 1 2 k c))
    (shapeCast S1x256x512 (landed X (16 + 2 * k.val) c) shapeCasts_S256x512_S1x256x512) (shapeCast S1x256x512 (landed X (17 + 2 * k.val) c) shapeCasts_S256x512_S1x256x512)
    (gM.view.readAt (Elt F) (Rect.unit (s := S1x1024) ![0, 0] S1x1024.size inb_S1x1024_S1x1024_0_0).toLoadRect g)

theorem oR_inb (k : Fin 4) : ∀ a, (![256 * k.val, 0] : Fin 2 → ℕ) a + S256x1024.size a ≤ S1024x1024.size a := by
  intro a; have := k.isLt
  fin_cases a
  · show 256 * k.val + 256 ≤ 1024; omega
  · show 0 + 1024 ≤ 1024; omega
abbrev oR (k : Fin 4) : Rect S1024x1024 := Rect.unit (s := S1024x1024) ![256 * k.val, 0] S256x1024.size (oR_inb k)

/-- The result buffer after rows `k` are stored. -/
abbrev put (X : Blocks F) (g : (cc0_stg1_0 : Ref sig .tc).ty.Contents (Elt F)) (c : Dev nD) (k : Fin 4) (f : (cc0_stg2_0 : Ref sig .tc).ty.Contents (Elt F)) :
    (cc0_stg2_0 : Ref sig .tc).ty.Contents (Elt F) := (oM.access (oR k)).write (Elt F) f (rows X g c k) Finset.univ

variable {g : (cc0_stg1_0 : Ref sig .tc).ty.Contents (Elt F)} {f : (cc0_stg2_0 : Ref sig .tc).ty.Contents (Elt F)}

theorem part25 (v13 v24 : BitVec 32) {Q}
    (h : iprop(St X K c 24 18 ∗ pL X c 17 ∗ pL X c 16 ∗ R) ⊢ Q ⟨k0_pay36 (k0_pay34 (xTerm X 0 2 0 c)) (k0_pay35 (xTerm X 1 2 0 c)) (shapeCast S1x256x512 (landed X 16 c) shapeCasts_S256x512_S1x256x512) (shapeCast S1x256x512 (landed X 17 c) shapeCasts_S256x512_S1x256x512), k0_pay37 (k0_pay34 (xTerm X 0 2 0 c)) (k0_pay35 (xTerm X 1 2 0 c)) (shapeCast S1x256x512 (landed X 16 c) shapeCasts_S256x512_S1x256x512) (shapeCast S1x256x512 (landed X 17 c) shapeCasts_S256x512_S1x256x512)⟩) :
    iprop(St X K c 24 16 ∗ R) ⊢ W c (on (k0_part25 (F := F)) v13 v24 (k0_pay34 (xTerm X 0 2 0 c)) (k0_pay35 (xTerm X 1 2 0 c))) Q := by
  rw [k0_part25_eq_skeleton]
  dsimp only [on, k0_part25_skel, Prog.lift, Prog.bind_op, Prog.bind_ret, Prog.pure_eq_ret]
  exact r_recv 24 16 (by decide) (by decide) (by rfl) (by rfl)
      (r_recv 24 17 (by decide) (by decide) (by rfl) (by rfl)
      ((pull2 _ _ _ _).trans
      (r_load_p 0 12 (by rfl) (by rfl)
      ((pull2 _ _ _ _).trans
      (r_load_p 1 12 (by rfl) (by rfl)
      (r_ret h))))))

theorem part26 (v24 v655 v667 : BitVec 32) {Q}
    (h : ∀ w, iprop(St X K c 24 19 ∗ pL X c 18 ∗ Out c g (put X g c 0 f) ∗ R) ⊢ Q ⟨k0_pay39 (xTerm X 0 2 1 c), k0_pay40 (xTerm X 1 2 1 c), w⟩) :
    iprop(St X K c 24 18 ∗ Out c g f ∗ R) ⊢ W c (on (k0_part26 (F := F)) c v24 v655 v667 (k0_pay36 (k0_pay34 (xTerm X 0 2 0 c)) (k0_pay35 (xTerm X 1 2 0 c)) (shapeCast S1x256x512 (landed X 16 c) shapeCasts_S256x512_S1x256x512) (shapeCast S1x256x512 (landed X 17 c) shapeCasts_S256x512_S1x256x512)) (k0_pay37 (k0_pay34 (xTerm X 0 2 0 c)) (k0_pay35 (xTerm X 1 2 0 c)) (shapeCast S1x256x512 (landed X 16 c) shapeCasts_S256x512_S1x256x512) (shapeCast S1x256x512 (landed X 17 c) shapeCasts_S256x512_S1x256x512))) Q := by
  rw [k0_part26_eq_skeleton]
  dsimp only [on, k0_part26_skel, Prog.lift, Prog.bind_op, Prog.bind_ret, Prog.pure_eq_ret]
  refine r_load_g ?_
  refine r_load_o ?_
  refine r_store_o (w' := rows X g c 0) ?_ ?_
  · rfl
  exact r_load_x (xTerm X 0 2 1 c) (by rfl)
      (r_load_x (xTerm X 1 2 1 c) (by rfl)
      (r_recv 24 18 (by decide) (by decide) (by rfl) (by rfl)
      (r_ret (h _))))

theorem part27 (v13 v655 v667 w : BitVec 32) {Q}
    (h : ∀ a, iprop(St X K c 24 20 ∗ Out c g (put X g c 1 f) ∗ pL X c 18 ∗ pL X c 19 ∗ R) ⊢ Q ⟨k0_pay42 (xTerm X 0 2 2 c), a⟩) :
    iprop(St X K c 24 19 ∗ pL X c 18 ∗ Out c g f ∗ R) ⊢ W c (on (k0_part27 (F := F)) c v13 v655 v667 (k0_pay39 (xTerm X 0 2 1 c)) (k0_pay40 (xTerm X 1 2 1 c)) w) Q := by
  rw [k0_part27_eq_skeleton]
  dsimp only [on, k0_part27_skel, Prog.lift, Prog.bind_op, Prog.bind_ret, Prog.pure_eq_ret]
  refine r_recv 24 19 (by decide) (by decide) (by rfl) (by rfl) ?_
  refine (pull2 _ _ _ _).trans ?_
  refine r_load_p 0 13 (by rfl) (by rfl) ?_
  refine (pull2 _ _ _ _).trans ?_
  refine r_load_p 1 13 (by rfl) (by rfl) ?_
  refine (pull2 _ _ _ _).trans ?_
  refine (pull3 _ _ _ _ _).trans ?_
  refine r_load_g ?_
  refine r_load_o ?_
  refine r_store_o (w' := rows X g c 1) ?_ ?_
  · rfl
  exact r_load_x (xTerm X 0 2 2 c) (by rfl)
      (r_ret (h _))

theorem part28 (v13 v24 w : BitVec 32) {Q}
    (h : iprop(St X K c 24 22 ∗ pL X c 21 ∗ pL X c 20 ∗ R) ⊢ Q ⟨k0_pay43 (k0_pay42 (xTerm X 0 2 2 c)) (shapeCast S1x256x512 (landed X 20 c) shapeCasts_S256x512_S1x256x512), k0_pay44 (xTerm X 1 2 2 c) (shapeCast S1x256x512 (landed X 21 c) shapeCasts_S256x512_S1x256x512)⟩) :
    iprop(St X K c 24 20 ∗ R) ⊢ W c (on (k0_part28 (F := F)) c v13 v24 (k0_pay42 (xTerm X 0 2 2 c)) w) Q := by
  rw [k0_part28_eq_skeleton]
  dsimp only [on, k0_part28_skel, Prog.lift, Prog.bind_op, Prog.bind_ret, Prog.pure_eq_ret]
  exact r_load_x (xTerm X 1 2 2 c) (by rfl)
      (r_recv 24 20 (by decide) (by decide) (by rfl) (by rfl)
      (r_recv 24 21 (by decide) (by decide) (by rfl) (by rfl)
      ((pull2 _ _ _ _).trans
      (r_load_p 0 14 (by rfl) (by rfl)
      ((pull2 _ _ _ _).trans
      (r_load_p 1 14 (by rfl) (by rfl)
      (r_ret h)))))))

theorem part29 (v24 v655 v667 : BitVec 32) {Q}
    (h : iprop(St X K c 24 22 ∗ Out c g (put X g c 2 f) ∗ R) ⊢ Q ⟨k0_pay46 (xTerm X 0 2 3 c), k0_pay47 (xTerm X 1 2 3 c)⟩) :
    iprop(St X K c 24 22 ∗ Out c g f ∗ R) ⊢ W c (on (k0_part29 (F := F)) c v24 v655 v667 (k0_pay43 (k0_pay42 (xTerm X 0 2 2 c)) (shapeCast S1x256x512 (landed X 20 c) shapeCasts_S256x512_S1x256x512)) (k0_pay44 (xTerm X 1 2 2 c) (shapeCast S1x256x512 (landed X 21 c) shapeCasts_S256x512_S1x256x512))) Q := by
  rw [k0_part29_eq_skeleton]
  dsimp only [on, k0_part29_skel, Prog.lift, Prog.bind_op, Prog.bind_ret, Prog.pure_eq_ret]
  refine r_load_g ?_
  refine r_load_o ?_
  refine r_store_o (w' := rows X g c 2) ?_ ?_
  · rfl
  exact r_load_x (xTerm X 0 2 3 c) (by rfl)
      (r_load_x (xTerm X 1 2 3 c) (by rfl)
      (r_ret h))

theorem part30 (v13 : BitVec 32) {Q}
    (h : iprop(St X K c 24 24 ∗ Out c g (put X g c 3 f) ∗ pL X c 22 ∗ pL X c 23 ∗ R) ⊢ Q ⟨⟩) :
    iprop(St X K c 24 22 ∗ Out c g f ∗ R) ⊢ W c (on (k0_part30 (F := F)) v13 (k0_pay46 (xTerm X 0 2 3 c)) (k0_pay47 (xTerm X 1 2 3 c))) Q := by
  rw [k0_part30_eq_skeleton]
  dsimp only [on, k0_part30_skel, Prog.lift, Prog.bind_op, Prog.bind_ret, Prog.pure_eq_ret]
  refine r_recv 24 22 (by decide) (by decide) (by rfl) (by rfl) ?_
  refine r_recv 24 23 (by decide) (by decide) (by rfl) (by rfl) ?_
  refine (pull2 _ _ _ _).trans ?_
  refine r_load_p 0 15 (by rfl) (by rfl) ?_
  refine (pull2 _ _ _ _).trans ?_
  refine r_load_p 1 15 (by rfl) (by rfl) ?_
  refine (pull2 _ _ _ _).trans ?_
  refine (pull3 _ _ _ _ _).trans ?_
  refine r_load_g ?_
  refine r_load_o ?_
  refine r_store_o (w' := rows X g c 3) ?_ ?_
  · rfl
  exact r_ret h

/-! ### The waits for the copies -/

theorem part31 {Q}
    (h : iprop(Back X K c 4 ∗ R) ⊢ Q ⟨⟩) :
    iprop(Back X K c 0 ∗ R) ⊢ W c (on (k0_part31 (F := F)) c) Q := by
  rw [k0_part31_eq_skeleton]
  dsimp only [on, k0_part31_skel, Prog.lift, Prog.bind_op, Prog.bind_ret, Prog.pure_eq_ret]
  exact r_wait 0 (by decide) (by rfl) (by rfl)
      (r_wait 1 (by decide) (by rfl) (by rfl)
      (r_wait 2 (by decide) (by rfl) (by rfl)
      (r_wait 3 (by decide) (by rfl) (by rfl)
      (r_ret h))))

theorem part32 {Q}
    (h : iprop(Back X K c 8 ∗ R) ⊢ Q ⟨⟩) :
    iprop(Back X K c 4 ∗ R) ⊢ W c (on (k0_part32 (F := F)) c) Q := by
  rw [k0_part32_eq_skeleton]
  dsimp only [on, k0_part32_skel, Prog.lift, Prog.bind_op, Prog.bind_ret, Prog.pure_eq_ret]
  exact r_wait 4 (by decide) (by rfl) (by rfl)
      (r_wait 5 (by decide) (by rfl) (by rfl)
      (r_wait 6 (by decide) (by rfl) (by rfl)
      (r_wait 7 (by decide) (by rfl) (by rfl)
      (r_ret h))))

theorem part33 {Q}
    (h : iprop(Back X K c 11 ∗ R) ⊢ Q ⟨⟩) :
    iprop(Back X K c 8 ∗ R) ⊢ W c (on (k0_part33 (F := F))) Q := by
  rw [k0_part33_eq_skeleton]
  dsimp only [on, k0_part33_skel, Prog.lift, Prog.bind_op, Prog.bind_ret, Prog.pure_eq_ret]
  exact r_wait 8 (by decide) (by rfl) (by rfl)
      (r_wait 9 (by decide) (by rfl) (by rfl)
      (r_wait 10 (by decide) (by rfl) (by rfl)
      (r_ret h)))

theorem part34 {Q}
    (h : iprop(Back X K c 14 ∗ R) ⊢ Q ⟨⟩) :
    iprop(Back X K c 11 ∗ R) ⊢ W c (on (k0_part34 (F := F))) Q := by
  rw [k0_part34_eq_skeleton]
  dsimp only [on, k0_part34_skel, Prog.lift, Prog.bind_op, Prog.bind_ret, Prog.pure_eq_ret]
  exact r_wait 11 (by decide) (by rfl) (by rfl)
      (r_wait 12 (by decide) (by rfl) (by rfl)
      (r_wait 13 (by decide) (by rfl) (by rfl)
      (r_ret h)))

theorem part35 {Q}
    (h : iprop(Back X K c 18 ∗ R) ⊢ Q ⟨⟩) :
    iprop(Back X K c 14 ∗ R) ⊢ W c (on (k0_part35 (F := F))) Q := by
  rw [k0_part35_eq_skeleton]
  dsimp only [on, k0_part35_skel, Prog.lift, Prog.bind_op, Prog.bind_ret, Prog.pure_eq_ret]
  exact r_wait 14 (by decide) (by rfl) (by rfl)
      (r_wait 15 (by decide) (by rfl) (by rfl)
      (r_wait 16 (by decide) (by rfl) (by rfl)
      (r_wait 17 (by decide) (by rfl) (by rfl)
      (r_ret h))))

theorem part36 {Q}
    (h : iprop(Back X K c 21 ∗ R) ⊢ Q ⟨⟩) :
    iprop(Back X K c 18 ∗ R) ⊢ W c (on (k0_part36 (F := F))) Q := by
  rw [k0_part36_eq_skeleton]
  dsimp only [on, k0_part36_skel, Prog.lift, Prog.bind_op, Prog.bind_ret, Prog.pure_eq_ret]
  exact r_wait 18 (by decide) (by rfl) (by rfl)
      (r_wait 19 (by decide) (by rfl) (by rfl)
      (r_wait 20 (by decide) (by rfl) (by rfl)
      (r_ret h)))

end Parts

end Cert.KernelIdeal.Ring
-- ==== Proof.KernelIdeal.Pieces.lean ====
/-
The communication buffers cut into their pieces and put back together, and the barrier's two hand-overs as one family over the copies.
-/
module

public import proofs.«01_k».proof.Proof.KernelIdeal.Steps
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family over `0 .. 2 m` as its even and its odd members -/

theorem even_odd (Φ : ℕ → sProp 𝕄) (m : ℕ) :
    bigSep (Finset.range (2 * m)) Φ ⊣⊢ iprop(bigSep (Finset.range m) (fun i => Φ (2 * i)) ∗ bigSep (Finset.range m) (fun i => Φ (2 * i + 1))) := by
  induction m with
  | zero =>
    rw [Nat.mul_zero, Finset.range_zero, bigSep_empty, bigSep_empty, bigSep_empty]
    refine ⟨?_, ?_⟩
    · iintro -
      isplitl <;> iempintro
    · iintro -; iempintro
  | succ m ih =>
    rw [show 2 * (m + 1) = 2 * m + 1 + 1 by omega, bigSep_range_succ, bigSep_range_succ, bigSep_range_succ, bigSep_range_succ]
    refine ⟨?_, ?_⟩
    · iintro ⟨H1, H0, H⟩
      ihave H := ih.1 $$ H
      icases H with ⟨He, Ho⟩
      isplitl [H0 He]
      · isplitl [H0]; · iexact H0
        iexact He
      isplitl [H1]; · iexact H1
      iexact Ho
    · iintro ⟨⟨H0, He⟩, H1, Ho⟩
      isplitl [H1]; · iexact H1
      isplitl [H0]; · iexact H0
      iapply ih.2
      isplitl [He]; · iexact He
      iexact Ho

/-! ## Pieces -/

/-- A piece at contents not chosen. -/
def anyP (c : Dev nD) (d p : ℕ) : sProp 𝕄 := iprop(∃ Y, owns (c : Thread nD τ) (piece d p) fullShare Y)
theorem anyP_of (c : Dev nD) (d p : ℕ) (Y : Vec F S256x512 .f32) : (owns (c : Thread nD τ) (piece d p) fullShare Y : sProp 𝕄) ⊢ anyP c d p := by
  unfold anyP; iintro H; iexists Y; iexact H

/-- A communication buffer, whole, at contents not chosen. -/
def anyC (c : Dev nD) (d : ℕ) : sProp 𝕄 := iprop(∃ f, ((comm d).view.loc (c : Thread nD τ)) ↦{fullShare} f)

theorem comm_set (d : ℕ) : (comm d).view.set = Finset.univ := match d with
  | 0 => View.set_whole _
  | _ + 1 => View.set_whole _

/-- The elements of a piece. -/
abbrev pset (c : Dev nD) (d : ℕ) (p : Fin 16) : Finset (Idx ((comm d).view.loc (c : Thread nD τ))) := (piece d p.val).view.set

theorem pset_eq (c : Dev nD) (d : ℕ) (p : Fin 16) : pset c d p = (pieceR p.val).set.map (comm d).view.emb := by
  unfold pset; rw [Memref.set_view_squeeze]; exact View.set_slice _ _

theorem pset_disjoint (c : Dev nD) (d : ℕ) (p p' : Fin 16) (h : p ≠ p') : Disjoint (pset c d p) (pset c d p') := by
  rw [pset_eq, pset_eq]
  refine (Finset.disjoint_map _).mpr ?_
  have hne : p.val ≠ p'.val := fun e => h (Fin.ext e)
  have h1 := p.isLt; have h2 := p'.isLt
  by_cases hq : p.val / 4 = p'.val / 4
  · refine Rect.unit_disjoint (1 : Fin 3) ?_
    show 256 * (p.val % 4) + 256 ≤ 256 * (p'.val % 4) ∨ 256 * (p'.val % 4) + 256 ≤ 256 * (p.val % 4)
    omega
  · refine Rect.unit_disjoint (0 : Fin 3) ?_
    show p.val / 4 % 4 + 1 ≤ p'.val / 4 % 4 ∨ p'.val / 4 % 4 + 1 ≤ p.val / 4 % 4
    omega

theorem pset_cover (c : Dev nD) (d : ℕ) : Finset.univ.biUnion (pset c d) = Finset.univ := by
  refine Finset.eq_univ_of_forall fun x => ?_
  have hx : x ∈ (comm d).view.set := by rw [comm_set]; exact Finset.mem_univ _
  rw [View.set, Finset.mem_map] at hx
  obtain ⟨y, -, rfl⟩ := hx
  have h0 : (y (0 : Fin 3)).val < 4 := (y (0 : Fin 3)).isLt
  have h1 : (y (1 : Fin 3)).val < 1024 := (y (1 : Fin 3)).isLt
  have h2 : (y (2 : Fin 3)).val < 512 := (y (2 : Fin 3)).isLt
  refine Finset.mem_biUnion.mpr ⟨⟨4 * (y (0 : Fin 3)).val + (y (1 : Fin 3)).val / 256, by omega⟩, Finset.mem_univ _, ?_⟩
  rw [pset_eq]
  refine Finset.mem_map_of_mem _ (Rect.mem_set_unit.mpr fun a => ?_)
  fin_cases a
  · show (4 * (y (0 : Fin 3)).val + (y (1 : Fin 3)).val / 256) / 4 % 4 ≤ (y (0 : Fin 3)).val ∧ (y (0 : Fin 3)).val < (4 * (y (0 : Fin 3)).val + (y (1 : Fin 3)).val / 256) / 4 % 4 + 1
    omega
  · show 256 * ((4 * (y (0 : Fin 3)).val + (y (1 : Fin 3)).val / 256) % 4) ≤ (y (1 : Fin 3)).val ∧ (y (1 : Fin 3)).val < 256 * ((4 * (y (0 : Fin 3)).val + (y (1 : Fin 3)).val / 256) % 4) + 256
    omega
  · show 0 ≤ (y (2 : Fin 3)).val ∧ (y (2 : Fin 3)).val < 0 + 512
    omega

/-- A piece at contents not chosen, by the elements it has. -/
theorem anyP_iff (c : Dev nD) (d : ℕ) (p : Fin 16) :
    (anyP (F := F) c d p.val : sProp 𝕄) ⊣⊢ iprop(∃ f, ((comm d).view.loc (c : Thread nD τ)) ↦[pset c d p]{fullShare} f) := by
  unfold anyP owns
  refine ⟨?_, ?_⟩
  · iintro ⟨%Y, %f, -, H⟩; iexists f; iexact H
  · iintro ⟨%f, H⟩; iexists _; iexists f; isplitr
    swap; · iexact H
    ipureintro; rfl

theorem anyP_pts (c : Dev nD) (d : ℕ) (p : Fin 16) (f : Buf (Elt F) ((comm d).view.loc (c : Thread nD τ))) :
    (((comm d).view.loc (c : Thread nD τ)) ↦[pset c d p]{fullShare} f : sProp 𝕄) ⊢ anyP c d p.val := by
  iintro H
  iapply (anyP_iff c d p).2
  iexists f; iexact H

theorem comm_split (c : Dev nD) (d : ℕ) : (anyC (F := F) c d : sProp 𝕄) ⊢ bigSep (Finset.univ : Finset (Fin 16)) fun p => anyP c d p.val := by
  unfold anyC
  iintro ⟨%f, H⟩
  ihave H := (Entails.of_eq (Ring.pointsTo_blocks (pset c d) (pset_disjoint c d) (pset_cover c d) f)) $$ H
  iapply (show (bigSep Finset.univ fun b => ((comm d).view.loc (c : Thread nD τ)) ↦[pset c d b]{fullShare} f : sProp 𝕄) ⊢ _ from
    bigSep_mono fun p _ => anyP_pts c d p f) $$ H

theorem comm_join (c : Dev nD) (d : ℕ) : (bigSep (Finset.univ : Finset (Fin 16)) (fun p => anyP (F := F) c d p.val) : sProp 𝕄) ⊢ anyC c d := by
  unfold anyC
  have f₀ : Buf (Elt F) ((comm d).view.loc (c : Thread nD τ)) := match d with
    | 0 => fun _ => FloatOps.ofBits .f32 0
    | _ + 1 => fun _ => FloatOps.ofBits .f32 0
  iintro H
  iapply (Ring.pointsTo_blocks_join_exists (pset c d) (pset_disjoint c d) (pset_cover c d) (q := fullShare) f₀)
  iapply (show (bigSep Finset.univ fun p : Fin 16 => anyP (F := F) c d p.val : sProp 𝕄) ⊢ _ from bigSep_mono fun p _ => (anyP_iff c d p).1) $$ H

end Cert.KernelIdeal.Ring
-- ==== Proof.KernelIdeal.Body.lean ====
/-
The whole body on one device, run once at a device number not chosen: the barrier, the copies and landings in program order, the rows stored, the
waits for the copies; and at the end the communication buffers put back together and every semaphore closed.
-/
module

public import proofs.«01_k».proof.Proof.KernelIdeal.Parts
public import proofs.«01_k».proof.Proof.KernelIdeal.Pieces
public import Idealize.ShloMosaic.Lib.Rounds.Family

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces by number -/

theorem Ico_join {a b c : ℕ} (hab : a ≤ b) (hbc : b ≤ c) (A : ℕ → sProp (MT nD τ sig Unit (Elt F) ℕ UU ℕ)) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]; rfl

theorem range_Ico {n : ℕ} : Finset.range n = Finset.Ico 0 n := Finset.range_eq_Ico n

theorem comm_range (c : Dev nD) (d : ℕ) : (anyC (F := F) c d : sProp 𝕄)
    ⊣⊢ iprop(bigSep (Finset.Ico 0 4) (anyP (F := F) c d) ∗ bigSep (Finset.Ico 4 12) (anyP (F := F) c d) ∗ bigSep (Finset.Ico 12 16) (anyP (F := F) c d)) := by
  have e : bigSep (Finset.univ : Finset (Fin 16)) (fun p => anyP (F := F) c d p.val) = bigSep (Finset.Ico 0 16) (anyP (F := F) c d) := by
    rw [Ring.bigSep_fin_eq_range 16 _ (anyP (F := F) c d) (fun _ _ => rfl), range_Ico]
  have s : bigSep (Finset.Ico 0 16) (anyP (F := F) c d)
      = iprop(bigSep (Finset.Ico 0 4) (anyP (F := F) c d) ∗ bigSep (Finset.Ico 4 12) (anyP (F := F) c d) ∗ bigSep (Finset.Ico 12 16) (anyP (F := F) c d)) := by
    rw [Ico_join (b := 4) (by decide) (by decide), Ico_join (a := 4) (b := 12) (by decide) (by decide)]
  rw [← s, ← e]
  exact ⟨comm_split c d, comm_join c d⟩

theorem dstM_even (i : ℕ) : dstM (2 * i) = piece 0 (i + 4) := congrArg₂ piece (by omega) (by omega)
theorem dstM_odd (i : ℕ) : dstM (2 * i + 1) = piece 1 (i + 4) := congrArg₂ piece (by omega) (by omega)

/-- What the landing pieces of one direction, and that their landing cells are open, hand over. -/
theorem destPk_even (c : Dev nD) (i : ℕ) : iprop(reached ER (rcvCell c (2 * i)) 0 ∗ anyP (F := F) c 0 (i + 4)) ⊢ (destPk c (2 * i) : sProp 𝕄) := by
  unfold destPk anyP; rw [dstM_even]
  iintro ⟨H1, H2⟩
  isplitl [H2]; · iexact H2
  iexact H1
theorem destPk_odd (c : Dev nD) (i : ℕ) : iprop(reached ER (rcvCell c (2 * i + 1)) 0 ∗ anyP (F := F) c 1 (i + 4)) ⊢ (destPk c (2 * i + 1) : sProp 𝕄) := by
  unfold destPk anyP; rw [dstM_odd]
  iintro ⟨H1, H2⟩
  isplitl [H2]; · iexact H2
  iexact H1

theorem sep_zip {Φ Ψ Θ : ℕ → sProp (MT nD τ sig Unit (Elt F) ℕ UU ℕ)} (s : Finset ℕ) (h : ∀ i, iprop(Φ i ∗ Ψ i) ⊢ Θ i) :
    iprop(bigSep s Φ ∗ bigSep s Ψ) ⊢ bigSep s Θ := by
  rw [← bigSep_sep']; exact bigSep_mono fun i _ => h i
theorem bs_mono {Φ Ψ : ℕ → sProp (MT nD τ sig Unit (Elt F) ℕ UU ℕ)} {s : Finset ℕ} (h : ∀ i ∈ s, Φ i ⊢ Ψ i) : bigSep s Φ ⊢ bigSep s Ψ :=
  bigSep_mono h
theorem shift4 (A : ℕ → sProp (MT nD τ sig Unit (Elt F) ℕ UU ℕ)) (m : ℕ) : bigSep (Finset.range m) (fun i => A (i + 4)) = bigSep (Finset.Ico 4 (m + 4)) A := by
  induction m with
  | zero => rw [Finset.range_zero, Nat.zero_add, Finset.Ico_self, bigSep_empty, bigSep_empty]
  | succ m ih => rw [bigSep_range_succ, ih, show m + 1 + 4 = m + 4 + 1 by omega, bigSep_Ico_succ_top (a := 4) (b := m + 4) (by omega)]

theorem gather_even (c : Dev nD) :
    iprop(bigSep (Finset.range 12) (fun i => reached ER (rcvCell c (2 * i)) 0) ∗ bigSep (Finset.Ico 4 12) (anyP (F := F) c 0) ∗ bigSep (Finset.Ico 12 16) (anyP (F := F) c 0))
      ⊢ (bigSep (Finset.range 12) (fun i => destPk c (2 * i)) : sProp 𝕄) := by
  have s : iprop(bigSep (Finset.Ico 4 12) (anyP (F := F) c 0) ∗ bigSep (Finset.Ico 12 16) (anyP (F := F) c 0)) = bigSep (Finset.range 12) (fun i => anyP (F := F) c 0 (i + 4)) := by
    rw [shift4 (anyP (F := F) c 0) 12, Ico_join (a := 4) (b := 12) (c := 12 + 4) (by decide) (by decide)]
  rw [s]
  exact sep_zip _ fun i => destPk_even c i
theorem gather_odd (c : Dev nD) :
    iprop(bigSep (Finset.range 12) (fun i => reached ER (rcvCell c (2 * i + 1)) 0) ∗ bigSep (Finset.Ico 4 12) (anyP (F := F) c 1) ∗ bigSep (Finset.Ico 12 16) (anyP (F := F) c 1))
      ⊢ (bigSep (Finset.range 12) (fun i => destPk c (2 * i + 1)) : sProp 𝕄) := by
  have s : iprop(bigSep (Finset.Ico 4 12) (anyP (F := F) c 1) ∗ bigSep (Finset.Ico 12 16) (anyP (F := F) c 1)) = bigSep (Finset.range 12) (fun i => anyP (F := F) c 1 (i + 4)) := by
    rw [shift4 (anyP (F := F) c 1) 12, Ico_join (a := 4) (b := 12) (c := 12 + 4) (by decide) (by decide)]
  rw [s]
  exact sep_zip _ fun i => destPk_odd c i

/-! ## The barrier -/

theorem pay_false (c : Dev nD) : (barPay (F := F) (prv c) false : sProp 𝕄) = bigSep (Finset.range 12) (fun i => destPk c (2 * i)) := by
  unfold barPay; simp only [Bool.false_eq_true, if_false, nxt_prv]
theorem pay_true (c : Dev nD) : (barPay (F := F) (nxt c) true : sProp 𝕄) = bigSep (Finset.range 12) (fun i => destPk c (2 * i + 1)) := by
  unfold barPay; simp only [if_true, prv_nxt]
theorem pays (c : Dev nD) : (iprop(barPay (F := F) c false ∗ barPay (F := F) c true) : sProp 𝕄)
    ⊢ bigSep (Finset.Ico 0 24) (fun n => destPk (F := F) (dest n c) n) := by
  rw [← range_Ico]
  unfold barPay
  simp only [Bool.false_eq_true, if_false, if_true]
  refine (show _ ⊢ iprop(bigSep (Finset.range 12) (fun i => destPk (F := F) (dest (2 * i) c) (2 * i)) ∗ bigSep (Finset.range 12) (fun i => destPk (F := F) (dest (2 * i + 1) c) (2 * i + 1))) from ?_).trans
    (even_odd (fun n => destPk (F := F) (dest n c) n) 12).2
  simp only [dest_even, dest_odd]
  iintro H; iexact H

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

variable {X : Blocks F} {K : GSem nD τ sig → ℕ} {c : Dev nD} {R : sProp (MT nD τ sig Unit (Elt F) ℕ UU ℕ)}

/-- What a device holds at the barrier, besides what goes with its signals. -/
def Enter (X : Blocks F) (K : GSem nD τ sig → ℕ) (c : Dev nD) : sProp 𝕄 :=
  iprop(recs X K ∗ levAts L lv ∗ owesA c (O₀ c) ∗ dutyTok ER (barCell (prv c)) 0 false ∗ dutyTok ER (barCell (nxt c)) 0 true
    ∗ atPos ER (barCell c) 0 ∅ 0 ∗ cred (tallyAt (barCell c) () 2)
    ∗ bigSep (Finset.range 12) (fun i => destPk (F := F) c (2 * i)) ∗ bigSep (Finset.range 12) (fun i => destPk (F := F) c (2 * i + 1))
    ∗ bigSep (Finset.Ico 0 24) (sendTok c) ∗ bigSep (Finset.Ico 0 24) (recvTok c) ∗ xPts X c fullShare)

theorem part1 {Q} (h : ∀ v2 v13 v24 v30, iprop(St X K c 0 0 ∗ atPos ER (barCell c) (0 + 1) ∅ 0 ∗ R) ⊢ Q ⟨c, v2, v13, v24, v30⟩) :
    iprop(Enter X K c ∗ R) ⊢ W c (on (k0_part1 (F := F))) Q := by
  rw [k0_part1_eq_skeleton]
  unfold W on k0_part1_skel
  simp only [semSignalWord, semWaitWord, Prog.lift, Prog.bind_op, Prog.bind_ret, Prog.pure_eq_ret, Prog.bind_assoc, wp_deviceId]
  simp only [dev1_eq c, dev2_eq c]
  unfold Enter owesA
  iintro ⟨⟨#Hrec, #Hlev, ⟨%W, HO⟩, Ht1, Ht2, Hat, Hc, Hd1, Hd2, Hs, Hr, Hx⟩, HR⟩
  ihave HI1 := (recs_bar X K (prv c)) $$ Hrec
  icases HI1 with ⟨#HI1, #Hr1⟩
  ihave HI2 := (recs_bar X K (nxt c)) $$ Hrec
  icases HI2 with ⟨#HI2, #Hr2⟩
  ihave HI := (recs_bar X K c) $$ Hrec
  icases HI with ⟨#HI, #Hr0⟩
  iapply (Rounds.wp_signal 𝒱₀ ER (ringRd X) (c : Thread nD τ) none (dst := (prv c : Thread nD τ)) (κ := K (barCell (prv c)))
      (d := false) (show false ∈ (ringRd X).duties (barCell (prv c)) 0 by rw [duties_bar X (prv c) 0 (by decide)]; decide) (show 1 = _ by decide) () (Ofrom c 0 + tallyAt (barCell (nxt c)) () 1) rfl) $$ [HO Ht1 Hd1]
  · isplitr; · iexact HI1
    isplitl [HO]; · iexact HO
    isplitl [Ht1]; · iexact Ht1
    isplitl [Hd1]
    · iapply (show _ ⊢ (ringRd X).payload (barCell (prv c)) 0 false from Entails.of_eq (pay_false c).symm); iexact Hd1
    · iexact Hr1
  iintro HO
  iapply (Rounds.wp_signal 𝒱₀ ER (ringRd X) (c : Thread nD τ) none (dst := (nxt c : Thread nD τ)) (κ := K (barCell (nxt c)))
      (d := true) (show true ∈ (ringRd X).duties (barCell (nxt c)) 0 by rw [duties_bar X (nxt c) 0 (by decide)]; decide) (show 1 = _ by decide) () (Ofrom c 0) rfl) $$ [HO Ht2 Hd2]
  · isplitr; · iexact HI2
    isplitl [HO]; · iexact HO
    isplitl [Ht2]; · iexact Ht2
    isplitl [Hd2]
    · iapply (show _ ⊢ (ringRd X).payload (barCell (nxt c)) 0 true from Entails.of_eq (pay_true c).symm); iexact Hd2
    · iexact Hr2
  iintro HO
  iapply (Rounds.wp_wait_rest_token 𝒱₀ ER (ringRd X) (c : Thread nD τ) none (κ := K (barCell c))
      (wpE_semWait_eq 𝒱₀ (c : Thread nD τ) none Set.univ) (Set.mem_univ _) () (O := Ofrom c 0) (W := W) (R := 0) (m := 0) (T := ∅)
      (show 0 + 2 = (ringRd X).expect (barCell c) 0 by rw [expect_bar])) $$ [Hc HO Hat]
  · isplitr; · iexact HI
    isplitl [Hc]; · iexact Hc
    isplitl [HO]; · iexact HO
    isplitr; · iapply (mayWait c (.reg barS) 0 (show 1 < 0 + 2 by decide)); iexact Hlev
    iexact Hat
  iintro ⟨HO, Hat, -, Hpay⟩
  ihave Hpay := (Entails.of_eq (rest_bar X c)) $$ Hpay
  ihave Hpay := (pays c) $$ Hpay
  iapply (r_ret (c := c) (h _ _ _ _))
  unfold St owesA
  isplitr [Hat HR]
  swap
  · isplitl [Hat]; · iexact Hat
    iexact HR
  isplitr; · iexact Hrec
  isplitr; · iexact Hlev
  isplitl [HO]; · iexists _; iexact HO
  isplitl [Hs]; · iexact Hs
  isplitl [Hpay]; · iexact Hpay
  rw [Finset.range_zero, bigSep_empty, bigSep_empty]
  isplitr; · iempintro
  isplitl [Hr]; · iexact Hr
  isplitr; · iempintro
  iexact Hx

/-! ## The end: shares, pieces and semaphores back -/

/-- The hop 0 copies' sources returned: the argument block whole again. -/
theorem x_back (X : Blocks F) (c : Dev nD) : ∀ n, n ≤ 8 → iprop(bigSep (Finset.range n) (sentBack X c) ∗ xPts X c (xr n))
    ⊢ (iprop(bigSep (Finset.range n) (fun i => atPos ER (sndCell c i) (0 + 1) ∅ 0) ∗ xPts X c fullShare) : sProp 𝕄)
  | 0, _ => by
    rw [Finset.range_zero, bigSep_empty, bigSep_empty]; iintro H; iexact H
  | n + 1, hn => by
    rw [bigSep_range_succ, bigSep_range_succ]
    have hs : n < 8 := by omega
    iintro ⟨⟨Hb, H⟩, Hx⟩
    unfold sentBack sndPay xLeft
    rw [if_pos hs, if_pos hs]
    icases Hb with ⟨Hat, Hp, Hl⟩
    ihave Hq := (x_split X c n (xq n)).2 $$ [Hp Hl]
    · isplitl [Hp]; · iexact Hp
      iexact Hl
    ihave Hx := (show (iprop(xPts X c (xq n) ∗ xPts X c (xr (n + 1))) : sProp 𝕄) ⊢ xPts X c (xr n) from (pointsTo_share (PosShare.mem_left_op_right (xr n))).2) $$ [Hq Hx]
    · isplitl [Hq]; · iexact Hq
      iexact Hx
    ihave H := (x_back X c n (by omega)) $$ [H Hx]
    · isplitl [H]
      · unfold sentBack sndPay xLeft; iexact H
      iexact Hx
    icases H with ⟨H, Hx⟩
    isplitr [Hx]
    · isplitl [Hat]; · iexact Hat
      iexact H
    iexact Hx

/-- A later copy's source returned: a piece. -/
theorem p_back (X : Blocks F) (c : Dev nD) (n : ℕ) (hn : 8 ≤ n) :
    (sentBack X c n : sProp 𝕄) ⊢ iprop(atPos ER (sndCell c n) (0 + 1) ∅ 0 ∗ anyP (F := F) c (n % 2) (n / 2)) := by
  unfold sentBack sndPay xLeft
  rw [if_neg (by omega), if_neg (by omega)]
  iintro ⟨Hat, Hp, -⟩
  isplitl [Hat]; · iexact Hat
  iapply (anyP_of c (n % 2) (n / 2) (sent X n c)); iexact Hp

theorem shift8 (A : ℕ → sProp (MT nD τ sig Unit (Elt F) ℕ UU ℕ)) (m : ℕ) : bigSep (Finset.Ico 8 (m + 8)) A = bigSep (Finset.range m) (fun i => A (i + 8)) := by
  induction m with
  | zero => rw [Finset.range_zero, Nat.zero_add, Finset.Ico_self, bigSep_empty, bigSep_empty]
  | succ m ih => rw [bigSep_range_succ, ← ih, show m + 1 + 8 = m + 8 + 1 by omega, bigSep_Ico_succ_top (a := 8) (b := m + 8) (by omega)]

theorem ps_back (X : Blocks F) (c : Dev nD) : (bigSep (Finset.Ico 8 24) (sentBack X c) : sProp 𝕄)
    ⊢ iprop(bigSep (Finset.Ico 8 24) (fun n => atPos ER (sndCell c n) (0 + 1) ∅ 0) ∗ bigSep (Finset.Ico 4 12) (anyP (F := F) c 0) ∗ bigSep (Finset.Ico 4 12) (anyP (F := F) c 1)) := by
  iintro H
  ihave H := (bs_mono (Ψ := fun n => iprop(atPos ER (sndCell c n) (0 + 1) ∅ 0 ∗ anyP (F := F) c (n % 2) (n / 2)))
    fun n hn => p_back X c n (Finset.mem_Ico.mp hn).1) $$ H
  ihave H := (Entails.of_eq (bigSep_sep' (Finset.Ico 8 24) (fun n => atPos ER (sndCell c n) (0 + 1) ∅ 0) (fun n => anyP (F := F) c (n % 2) (n / 2)))) $$ H
  icases H with ⟨Hat, H⟩
  isplitl [Hat]; · iexact Hat
  ihave H := (Entails.of_eq (shift8 (fun n => anyP (F := F) c (n % 2) (n / 2)) 16)) $$ H
  ihave H := (even_odd (fun i => anyP (F := F) c ((i + 8) % 2) ((i + 8) / 2)) 8).1 $$ H
  icases H with ⟨H0, H1⟩
  isplitl [H0]
  · iapply (Entails.of_eq (shift4 (anyP (F := F) c 0) 8))
    iapply (bs_mono (Φ := fun i => anyP (F := F) c ((2 * i + 8) % 2) ((2 * i + 8) / 2)) fun i _ => Entails.of_eq (congrArg₂ (anyP (F := F) c) (by omega) (by omega))); iexact H0
  · iapply (Entails.of_eq (shift4 (anyP (F := F) c 1) 8))
    iapply (bs_mono (Φ := fun i => anyP (F := F) c ((2 * i + 1 + 8) % 2) ((2 * i + 1 + 8) / 2)) fun i _ => Entails.of_eq (congrArg₂ (anyP (F := F) c) (by omega) (by omega))); iexact H1

/-- The last hop's landings, as pieces. -/
theorem last_back (X : Blocks F) (c : Dev nD) : (iprop(pL X c 22 ∗ pL X c 23 ∗ pL X c 21 ∗ pL X c 20 ∗ pL X c 18 ∗ pL X c 19 ∗ pL X c 17 ∗ pL X c 16) : sProp 𝕄)
    ⊢ iprop(bigSep (Finset.Ico 12 16) (anyP (F := F) c 0) ∗ bigSep (Finset.Ico 12 16) (anyP (F := F) c 1)) := by
  have e : ∀ d, bigSep (Finset.Ico 12 16) (anyP (F := F) c d) = iprop(anyP (F := F) c d 12 ∗ anyP (F := F) c d 13 ∗ anyP (F := F) c d 14 ∗ anyP (F := F) c d 15) := fun d => by
    rw [bigSep_Ico_succ_bot (by decide), bigSep_Ico_succ_bot (by decide), bigSep_Ico_succ_bot (by decide), bigSep_Ico_one]
  rw [e, e]
  iintro ⟨H22, H23, H21, H20, H18, H19, H17, H16⟩
  isplitl [H16 H18 H20 H22]
  · isplitl [H16]; · iapply (anyP_of c 0 12 (landed X 16 c)); iexact H16
    isplitl [H18]; · iapply (anyP_of c 0 13 (landed X 18 c)); iexact H18
    isplitl [H20]; · iapply (anyP_of c 0 14 (landed X 20 c)); iexact H20
    iapply (anyP_of c 0 15 (landed X 22 c)); iexact H22
  · isplitl [H17]; · iapply (anyP_of c 1 12 (landed X 17 c)); iexact H17
    isplitl [H19]; · iapply (anyP_of c 1 13 (landed X 19 c)); iexact H19
    isplitl [H21]; · iapply (anyP_of c 1 14 (landed X 21 c)); iexact H21
    iapply (anyP_of c 1 15 (landed X 23 c)); iexact H23

/-- Every semaphore of the device closed: its counter back at zero. -/
theorem close_all (X : Blocks F) (K : GSem nD τ sig → ℕ) (c : Dev nD) :
    (iprop(recs X K ∗ atPos ER (barCell c) (0 + 1) ∅ 0 ∗ bigSep (Finset.range 24) (fun n => atPos ER (sndCell c n) (0 + 1) ∅ 0) ∗ bigSep (Finset.range 24) (recvDone c)) : sProp 𝕄)
      ⊢ |={Set.univ}=> iprop(semVal (barCell c) 0 ∗ bigSep (Finset.range 24) (fun n => semVal (sndCell c n) 0) ∗ bigSep (Finset.range 24) (fun n => semVal (rcvCell c n) 0)) := by
  iintro ⟨#Hrec, Hb, Hs, Hr⟩
  ihave HI := (recs_bar X K c) $$ Hrec
  icases HI with ⟨#HI, -⟩
  imod (Rounds.cell_close ER (ringRd X) (g := barCell c) (Set.mem_univ (K (barCell c))) id (duties_later X (barCell c))) $$ [Hb] with Hb
  · isplitr; · iexact HI
    iexact Hb
  imod (Rounds.cells_close ER (ringRd X) (Finset.range 24) (sndCell c) (fun n => K (sndCell c n)) (fun _ _ => Set.mem_univ _) (fun _ _ => id)
    (fun _ => 0 + 1) (fun n _ => duties_later X (sndCell c n))) $$ [Hs] with Hs
  · iapply (bigSep_with_persistent (R := recs X K) (Φ := fun n => atPos ER (sndCell c n) (0 + 1) ∅ 0) fun n hn => ?_)
    · iintro ⟨#Hrec, H⟩
      ihave HI := (recs_dma X K c n (Finset.mem_range.mp hn)) $$ Hrec
      icases HI with ⟨#HI, -⟩
      isplitr; · iexact HI
      iexact H
    · isplitr; · iexact Hrec
      iexact Hs
  imod (Rounds.cells_close ER (ringRd X) (Finset.range 24) (rcvCell c) (fun n => K (rcvCell c n)) (fun _ _ => Set.mem_univ _) (fun _ _ => id)
    (fun _ => 0 + 1) (fun n _ => duties_later X (rcvCell c n))) $$ [Hr] with Hr
  · iapply (bigSep_with_persistent (R := recs X K) (Φ := recvDone (F := F) c) fun n hn => ?_)
    · unfold recvDone
      iintro ⟨#Hrec, H⟩
      ihave HI := (recs_dma X K c n (Finset.mem_range.mp hn)) $$ Hrec
      icases HI with ⟨-, #HI⟩
      isplitr; · iexact HI
      iexact H
    · isplitr; · iexact Hrec
      iexact Hr
  imodintro
  isplitl [Hb]; · iexact Hb
  isplitl [Hs]; · iexact Hs
  iexact Hr

/-! ## The whole body -/

variable {g : (cc0_stg1_0 : Ref sig .tc).ty.Contents (Elt F)} {f : (cc0_stg2_0 : Ref sig .tc).ty.Contents (Elt F)}

/-- The result block after every row is stored. -/
def out (X : Blocks F) (g : (cc0_stg1_0 : Ref sig .tc).ty.Contents (Elt F)) (c : Dev nD) (f : (cc0_stg2_0 : Ref sig .tc).ty.Contents (Elt F)) :
    (cc0_stg2_0 : Ref sig .tc).ty.Contents (Elt F) := put X g c 3 (put X g c 2 (put X g c 1 (put X g c 0 f)))

/-- What is held when the last row is stored, besides the state: the result, the pieces of the last landings, and what was kept from the start. -/
def Late (X : Blocks F) (c : Dev nD) (g : (cc0_stg1_0 : Ref sig .tc).ty.Contents (Elt F)) (f : (cc0_stg2_0 : Ref sig .tc).ty.Contents (Elt F)) (R : sProp (MT nD τ sig Unit (Elt F) ℕ UU ℕ)) : sProp 𝕄 :=
  iprop(Out c g f ∗ (pL X c 22 ∗ pL X c 23 ∗ pL X c 21 ∗ pL X c 20 ∗ pL X c 18 ∗ pL X c 19 ∗ pL X c 17 ∗ pL X c 16) ∗ R)

theorem late_of (S : sProp (MT nD τ sig Unit (Elt F) ℕ UU ℕ)) : iprop(S ∗ Out c g f ∗ pL X c 22 ∗ pL X c 23 ∗ pL X c 21 ∗ pL X c 20 ∗ pL X c 18 ∗ pL X c 19 ∗ pL X c 17 ∗ pL X c 16 ∗ R)
    ⊢ iprop(S ∗ Late X c g f R) := by
  unfold Late
  iintro ⟨HS, HO, H22, H23, H21, H20, H18, H19, H17, H16, HR⟩
  isplitl [HS]; · iexact HS
  isplitl [HO]; · iexact HO
  isplitr [HR]
  swap; · iexact HR
  isplitl [H22]; · iexact H22
  isplitl [H23]; · iexact H23
  isplitl [H21]; · iexact H21
  isplitl [H20]; · iexact H20
  isplitl [H18]; · iexact H18
  isplitl [H19]; · iexact H19
  isplitl [H17]; · iexact H17
  iexact H16

/-- Every copy made and every landing taken: what remains is to wait for the copies. -/
theorem to_back : iprop(St X K c 24 24 ∗ R) ⊢ iprop(Back X K c 0 ∗ bigSep (Finset.range 24) (recvDone (F := F) c) ∗ xPts X c (xr 8) ∗ R) := by
  unfold St Back
  rw [Ofrom_end c 24 (by decide), ← range_Ico, Finset.range_zero, bigSep_empty]
  iintro ⟨⟨#Hrec, -, HO, -, -, Hf, -, Hr, Hx⟩, HR⟩
  isplitl [HO Hf]
  · isplitr; · iexact Hrec
    isplitl [HO]; · iexact HO
    isplitl [Hf]; · iexact Hf
    iempintro
  isplitl [Hr]; · iexact Hr
  isplitl [Hx]; · iexact Hx
  iexact HR

/-- The waits for the copies, and the end of the body. -/
theorem r_tail {α : Type} {a : α} {Q : α → sProp (MT nD τ sig Unit (Elt F) ℕ UU ℕ)}
    (h : iprop(bigSep (Finset.range 24) (sentBack X c) ∗ recs X K ∗ owesA c 0 ∗ R) ⊢ |={Set.univ}=> Q a) :
    iprop(Back X K c 24 ∗ R) ⊢ W c (.ret a) Q := by
  unfold W; rw [wp_ret]
  unfold Back
  iintro ⟨⟨#Hrec, HO, -, Hs⟩, HR⟩
  iapply h
  isplitl [Hs]; · iexact Hs
  isplitr; · iexact Hrec
  isplitl [HO]; · iexact HO
  iexact HR

theorem body_run {Q : PUnit → sProp (MT nD τ sig Unit (Elt F) ℕ UU ℕ)}
    (h : iprop(bigSep (Finset.range 24) (sentBack X c) ∗ recs X K ∗ owesA c 0 ∗ bigSep (Finset.range 24) (recvDone (F := F) c) ∗ xPts X c (xr 8)
      ∗ Late X c g (out X g c f) (iprop(atPos ER (barCell c) (0 + 1) ∅ 0 ∗ R))) ⊢ |={Set.univ}=> Q ⟨⟩) :
    iprop(Enter X K c ∗ Out c g f ∗ R) ⊢ W c (on (cc0_body (F := F))) Q := by
  rw [cc0_body_eq_skeleton]
  unfold on cc0_body_skel
  rw [k0_part37_eq_skeleton]
  unfold k0_part37_skel
  refine r_bind ?_
  refine r_bind (part1 fun v2 v13 v24 v30 => ?_)
  refine (pull2 _ _ _ _).trans ?_
  refine r_bind (part2 v2 v24 v30 fun v40 v51 v63 => ?_)
  refine r_bind (part3 v13 v24 v40 v51 v63 ?_)
  refine r_bind (part4 v13 v24 v40 v51 fun v118 => ?_)
  refine r_bind (part5 v2 v13 v24 v51 v118 fun v143 v144 v145 v146 => ?_)
  refine r_bind (part6 v2 v24 v143 v144 v145 v146 fun v151 v163 => ?_)
  refine r_bind (part7 v13 v24 ?_)
  refine r_bind (part8 v13 v24 v151 v163 ?_)
  refine r_bind (part9 v13 v24 ?_)
  refine r_bind (part10 v13 v24 v151 v163 ?_)
  refine r_bind (part11 v13 v24 ?_)
  refine r_bind (part12 v13 v151 v163 fun w => ?_)
  refine r_bind (part13 v13 v24 w ?_)
  refine r_bind (part14 v2 v13 fun v391 v392 v397 => ?_)
  refine r_bind (part15 v2 v24 v391 v392 v397 fun v399 v411 => ?_)
  refine r_bind (part16 v13 v24 ?_)
  refine r_bind (part17 v13 v24 v399 v411 ?_)
  refine r_bind (part18 v13 v24 ?_)
  refine r_bind (part19 v13 v399 v411 ?_)
  refine r_bind (part20 v24 ?_)
  refine r_bind (part21 v13 v399 ?_)
  refine r_bind (part22 v24 v411 ?_)
  refine r_bind (part23 v13 ?_)
  refine r_bind (part24 v2 fun v655 v667 => ?_)
  refine r_bind (part25 v13 v24 ?_)
  refine (pull3 _ _ _ _ _).trans ?_
  refine r_bind (part26 v24 v655 v667 fun w26 => ?_)
  refine r_bind (part27 v13 v655 v667 w26 fun v769 => ?_)
  refine r_bind (part28 v13 v24 v769 ?_)
  refine (pull3 _ _ _ _ _).trans ?_
  refine r_bind (part29 v24 v655 v667 ?_)
  refine r_bind (part30 v13 ?_)
  refine (late_of _).trans ?_
  refine to_back.trans ?_
  refine r_bind (part31 ?_)
  refine r_bind (part32 ?_)
  refine r_bind (part33 ?_)
  refine r_bind (part34 ?_)
  refine r_bind (part35 ?_)
  refine r_bind (part36 ?_)
  dsimp only [Prog.lift, Prog.bind_op, Prog.bind_ret, Prog.pure_eq_ret]
  refine r_wait 21 (by decide) (by rfl) (by rfl) ?_
  refine r_ret ?_
  refine r_wait 22 (by decide) (by rfl) (by rfl) ?_
  refine r_wait 23 (by decide) (by rfl) (by rfl) ?_
  exact r_tail h

end Cert.KernelIdeal.Ring
-- ==== Proof.KernelIdeal.Out.lean ====
/-
The result block after the four stores: each row is in the store of its group of 256 rows, so nothing of what the block held before remains.
-/
module

public import proofs.«01_k».proof.Proof.KernelIdeal.Body
public import Idealize.ShloMosaic.Lib.WritesUnit

@[expose] public section

noncomputable section

namespace Cert.KernelIdeal.Ring

open Cert.KernelIdeal Cert.KernelIdeal.Gen
open Idealize.ShloMosaic
open Idealize.ShloMosaic.TcCoe

variable {F : FTy → Type} [FloatOps F]

variable (X : Blocks F) (g : (cc0_stg1_0 : Ref sig .tc).ty.Contents (Elt F)) (c : Dev nD)

theorem oR_emb (k : Fin 4) (y : S256x1024.Idx) (i : S1024x1024.Idx) (h0 : (i (0 : Fin 2)).val = 256 * k.val + (y (0 : Fin 2)).val)
    (h1 : (i (1 : Fin 2)).val = (y (1 : Fin 2)).val) : (oM.access (oR k) : View sig .tc _ _ _).emb y = i := by
  refine funext fun a => Fin.ext ?_
  show (![256 * k.val, 0] : Fin 2 → ℕ) a + 1 * (y a).val = (i a).val
  fin_cases a
  · show 256 * k.val + 1 * (y (0 : Fin 2)).val = (i (0 : Fin 2)).val; omega
  · show 0 + 1 * (y (1 : Fin 2)).val = (i (1 : Fin 2)).val; omega

theorem put_mem (k : Fin 4) (f : (cc0_stg2_0 : Ref sig .tc).ty.Contents (Elt F)) (y : S256x1024.Idx) (i : S1024x1024.Idx)
    (h0 : (i (0 : Fin 2)).val = 256 * k.val + (y (0 : Fin 2)).val) (h1 : (i (1 : Fin 2)).val = (y (1 : Fin 2)).val) :
    put X g c k f i = rows X g c k y := by
  have h := View.write_emb_of_mem (v := (oM.access (oR k) : View sig .tc _ _ _)) (Val := Elt F) f (rows X g c k) (M := Finset.univ) (x := y) (Finset.mem_univ _)
  rw [oR_emb k y i h0 h1] at h
  exact h

theorem put_not (k : Fin 4) (f : (cc0_stg2_0 : Ref sig .tc).ty.Contents (Elt F)) (i : S1024x1024.Idx)
    (h : (i (0 : Fin 2)).val < 256 * k.val ∨ 256 * k.val + 256 ≤ (i (0 : Fin 2)).val) : put X g c k f i = f i := by
  refine View.write_of_not_mem (v := (oM.access (oR k) : View sig .tc _ _ _)) (Val := Elt F) f (rows X g c k) Finset.univ fun hm => ?_
  obtain ⟨y, -, hy⟩ := Finset.mem_map.mp hm
  have e : (oM.access (oR k) : View sig .tc _ _ _).emb y = i := hy
  have e0 : 256 * k.val + 1 * (y (0 : Fin 2)).val = (i (0 : Fin 2)).val := congrArg (fun j : S1024x1024.Idx => (j (0 : Fin 2)).val) e
  have := (y (0 : Fin 2)).isLt
  have h2 : (y (0 : Fin 2)).val < 256 := this
  omega

/-- The group of 256 rows a row is in, and its place there. -/
def grp (i : S1024x1024.Idx) : Fin 4 := ⟨(i (0 : Fin 2)).val / 256, by have h : (i (0 : Fin 2)).val < 1024 := (i (0 : Fin 2)).isLt; omega⟩
theorem grp_mem (i : S1024x1024.Idx) : ∀ a : Fin 2, (![256 * (grp i).val, 0] : Fin 2 → ℕ) a ≤ (i a).val ∧ (i a).val < (![256 * (grp i).val, 0] : Fin 2 → ℕ) a + S256x1024.size a := by
  intro a
  fin_cases a
  · show 256 * ((i (0 : Fin 2)).val / 256) ≤ (i (0 : Fin 2)).val ∧ (i (0 : Fin 2)).val < 256 * ((i (0 : Fin 2)).val / 256) + 256; omega
  · show 0 ≤ (i (1 : Fin 2)).val ∧ (i (1 : Fin 2)).val < 0 + 1024
    have h : (i (1 : Fin 2)).val < 1024 := (i (1 : Fin 2)).isLt; omega
def loc (i : S1024x1024.Idx) : S256x1024.Idx := Rect.unitLocal (s := S1024x1024) (off := ![256 * (grp i).val, 0]) (size := S256x1024.size) i (grp_mem i)

/-- The result block: row by row. -/
def res : (cc0_stg2_0 : Ref sig .tc).ty.Contents (Elt F) := fun i => rows X g c (grp i) (loc i)

theorem out_eq (f : (cc0_stg2_0 : Ref sig .tc).ty.Contents (Elt F)) : out X g c f = res X g c := by
  refine funext fun (i : S1024x1024.Idx) => ?_
  have hk : (grp i).val = (i (0 : Fin 2)).val / 256 := rfl
  have l0 : (loc i (0 : Fin 2)).val = (i (0 : Fin 2)).val - 256 * (grp i).val := rfl
  have l1 : (loc i (1 : Fin 2)).val = (i (1 : Fin 2)).val := rfl
  have key : ∀ (k : Fin 4) (f : (cc0_stg2_0 : Ref sig .tc).ty.Contents (Elt F)), grp i = k → put X g c k f i = res X g c i := fun k f h => by
    subst h; exact put_mem X g c _ f (loc i) i (by omega) l1
  unfold out
  have h4 := (grp i).isLt
  have cases4 : (grp i).val = 3 ∨ (grp i).val = 2 ∨ (grp i).val = 1 ∨ (grp i).val = 0 := by omega
  rcases cases4 with h | h | h | h
  · exact key 3 _ (Fin.ext h)
  · rw [put_not X g c 3 _ i (by show _ < 256 * 3 ∨ 256 * 3 + 256 ≤ _; omega)]; exact key 2 _ (Fin.ext h)
  · rw [put_not X g c 3 _ i (by show _ < 256 * 3 ∨ 256 * 3 + 256 ≤ _; omega), put_not X g c 2 _ i (by show _ < 256 * 2 ∨ 256 * 2 + 256 ≤ _; omega)]
    exact key 1 _ (Fin.ext h)
  · rw [put_not X g c 3 _ i (by show _ < 256 * 3 ∨ 256 * 3 + 256 ≤ _; omega), put_not X g c 2 _ i (by show _ < 256 * 2 ∨ 256 * 2 + 256 ≤ _; omega),
      put_not X g c 1 _ i (by show _ < 256 * 1 ∨ 256 * 1 + 256 ≤ _; omega)]
    exact key 0 _ (Fin.ext h)

end Cert.KernelIdeal.Ring
-- ==== Proof.KernelIdeal.Region.lean ====
/-
The kernel's region of @main: what a device holds when the region begins and when it ends, and the body's obligation between the two.
-/
module

public import proofs.«01_k».proof.Proof.KernelIdeal.Out
public import proofs.«01_k».proof.Proof.Gen.KernelIdeal.Frame

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Contents -/

/-- The argument block and the scale as the region stages them. -/
def bX : Blocks F := fun c => iblk m c 0 t0_0
def gB (c : Dev nD) : (cc0_stg1_0 : Ref sig .tc).ty.Contents (Elt F) := iblk m c 1 t0_0

/-! ## Before and after the body -/

/-- The protocol's rights of one device, its transfer cells not yet open. -/
def closedGh (K : GSem nD τ sig → ℕ) (c : Dev nD) : sProp 𝕄 :=
  iprop(recs (bX m) K ∗ dutyTok ER (barCell (prv c)) 0 false ∗ dutyTok ER (barCell (nxt c)) 0 true ∗ atPos ER (barCell c) 0 ∅ 0
    ∗ (bigSep (Finset.range 24) (fun n => openTok ER (sndCell c n)) ∗ bigSep (Finset.range 24) (fun n => openTok ER (rcvCell c n)))
    ∗ bigSep (Finset.range 24) (fun n => dutyTok ER (sndCell c n) 0 false) ∗ bigSep (Finset.range 24) (fun n => dutyTok ER (rcvCell (dest n c) n) 0 false))
/-- The same, every cell open. -/
def openGh (K : GSem nD τ sig → ℕ) (c : Dev nD) : sProp 𝕄 :=
  iprop(recs (bX m) K ∗ dutyTok ER (barCell (prv c)) 0 false ∗ dutyTok ER (barCell (nxt c)) 0 true ∗ atPos ER (barCell c) 0 ∅ 0
    ∗ (bigSep (Finset.range 24) (fun n => iprop(atPos ER (sndCell c n) 0 ∅ 0 ∗ reached ER (sndCell c n) 0))
      ∗ bigSep (Finset.range 24) (fun n => iprop(atPos ER (rcvCell c n) 0 ∅ 0 ∗ reached ER (rcvCell c n) 0)))
    ∗ bigSep (Finset.range 24) (fun n => dutyTok ER (sndCell c n) 0 false) ∗ bigSep (Finset.range 24) (fun n => dutyTok ER (rcvCell (dest n c) n) 0 false))
/-- The credits of a device's own cells. -/
def ownCred (c : Dev nD) : sProp 𝕄 := iprop(cred (tallyAt (barCell c) () 2) ∗ bigSep (Finset.range 24) (fun n => cred (tallyAt (rcvCell c n) () N)))

def Tk (c : Dev nD) : sProp 𝕄 := iprop((∃ K, closedGh m K c) ∗ ownCred (F := F) c)
def Xk (c : Dev nD) : sProp 𝕄 := iprop((∃ K, openGh m K c) ∗ ownCred (F := F) c ∗ levAts L lv)
def Yk (c : Dev nD) : sProp 𝕄 := semVal (barCell c) 0
def ownZero (c : Dev nD) : sProp 𝕄 := iprop(bigSep (Finset.range 24) (fun n => semVal (sndCell c n) 0) ∗ bigSep (Finset.range 24) (fun n => semVal (rcvCell c n) 0))

/-- The kernel's own transfer semaphores: at the sender and at the receiver, by copy. -/
def osem (k : Fin 2 × Fin 24) : SemLoc sig := .dma (if k.1 = 0 then sndS k.2.val else rcvS k.2.val)
theorem osem_facts : Pipeline.OwnSemFacts spec0 osem := by decide

theorem ownSems_eq (c : Dev nD) : (Pipeline.ownSems0 osem c : sProp 𝕄) = ownZero (F := F) c := by
  unfold Pipeline.ownSems0 ownZero
  rw [bigSep_univ_prod, BI.bigSep_fin_two]
  rw [Ring.bigSep_fin_eq_range 24 _ (fun n => (semVal (sndCell c n) 0 : sProp 𝕄)) (fun _ _ => rfl),
    Ring.bigSep_fin_eq_range 24 _ (fun n => (semVal (rcvCell c n) 0 : sProp 𝕄)) (fun _ _ => rfl)]
  rfl

/-- The region's opening: every transfer cell opened with its counter. -/
theorem hopen (c : Dev nD) : iprop(Tk m c ∗ Pipeline.ownSems0 osem c ∗ levAts L lv) ⊢ (|={Set.univ}=> Xk m c : sProp 𝕄) := by
  rw [ownSems_eq]
  unfold Tk Xk closedGh openGh ownZero
  iintro ⟨⟨⟨%K, #Hrec, Ht1, Ht2, Hat, ⟨Hos, Hor⟩, Hds, Hdr⟩, Hc⟩, ⟨Hs, Hr⟩, #Hlev⟩
  imod (Rounds.cells_open ER (ringRd (bX m)) (Finset.range 24) (sndCell c) (fun n => K (sndCell c n)) (fun _ _ => Set.mem_univ _)) $$ [Hos Hs] with Hs
  · isplitl [Hos]
    · iapply (bigSep_with_persistent (R := recs (bX m) K) (Φ := fun n => openTok ER (sndCell c n)) fun n hn => ?_)
      · iintro ⟨#Hrec, H⟩
        ihave HI := (recs_dma (bX m) K c n (Finset.mem_range.mp hn)) $$ Hrec
        icases HI with ⟨#HI, -⟩
        isplitr; · iexact HI
        iexact H
      · isplitr; · iexact Hrec
        iexact Hos
    iexact Hs
  imod (Rounds.cells_open ER (ringRd (bX m)) (Finset.range 24) (rcvCell c) (fun n => K (rcvCell c n)) (fun _ _ => Set.mem_univ _)) $$ [Hor Hr] with Hr
  · isplitl [Hor]
    · iapply (bigSep_with_persistent (R := recs (bX m) K) (Φ := fun n => openTok ER (rcvCell c n)) fun n hn => ?_)
      · iintro ⟨#Hrec, H⟩
        ihave HI := (recs_dma (bX m) K c n (Finset.mem_range.mp hn)) $$ Hrec
        icases HI with ⟨-, #HI⟩
        isplitr; · iexact HI
        iexact H
      · isplitr; · iexact Hrec
        iexact Hor
    iexact Hr
  imodintro
  isplitr [Hc]
  · iexists K
    isplitr; · iexact Hrec
    isplitl [Ht1]; · iexact Ht1
    isplitl [Ht2]; · iexact Ht2
    isplitl [Hat]; · iexact Hat
    isplitl [Hs Hr]
    · isplitl [Hs]; · iexact Hs
      iexact Hr
    isplitl [Hds]; · iexact Hds
    iexact Hdr
  isplitl [Hc]; · iexact Hc
  iexact Hlev

/-! ## The proof data -/

/-- The communication buffers and the generator register ride along. -/
def Side (c : Dev nD) : sProp 𝕄 := iprop(anyC (F := F) c 0 ∗ anyC (F := F) c 1 ∗ ∃ r, prngReg c r)

def dat (c : Dev nD) : Dat τ (Elt F) Unit ℕ UU ℕ cfg0 c where
  A w := V m c (Pipeline.arrRef spec0 w)
  after
    | 0, t => iblk m c 0 t
    | 1, t => iblk m c 1 t
    | 2, _ => res (bX m) (gB m c) c
    | ⟨_ + 3, h⟩, _ => absurd h (Nat.not_lt.2 (Nat.le_add_left _ _))
  Φ t := if t.val = 0 then iprop(Xk m c ∗ Side (F := F) c) else iprop(Yk (F := F) c ∗ ownZero (F := F) c ∗ Side (F := F) c)
  q _ := fullShare
  owed t := if t.val = 0 then O₀ c else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := dat m c

theorem Φ_first (c : Dev nD) : (dat m c).Φ t0_0.castSucc = iprop(Xk m c ∗ Side (F := F) c) := by
  show (if (t0_0.castSucc : Fin (cfg0.N + 1)).val = 0 then iprop(Xk m c ∗ Side (F := F) c) else iprop(Yk (F := F) c ∗ ownZero (F := F) c ∗ Side (F := F) c)) = _; exact if_pos rfl
theorem Φ_next (c : Dev nD) : (dat m c).Φ t0_0.succ = iprop(Yk (F := F) c ∗ ownZero (F := F) c ∗ Side (F := F) c) := by
  show (if (t0_0.succ : Fin (cfg0.N + 1)).val = 0 then iprop(Xk m c ∗ Side (F := F) c) else iprop(Yk (F := F) c ∗ ownZero (F := F) c ∗ Side (F := F) c)) = _; exact if_neg (Nat.succ_ne_zero _)
theorem owed_first (c : Dev nD) : (dat (F := F) m c).owed t0_0.castSucc = O₀ c := by
  show (if (t0_0.castSucc : Fin (cfg0.N + 1)).val = 0 then O₀ c else 0) = _; exact if_pos rfl
theorem owed_next (c : Dev nD) : (dat (F := F) m c).owed t0_0.succ = 0 := by
  show (if (t0_0.succ : Fin (cfg0.N + 1)).val = 0 then O₀ c else 0) = _; exact if_neg (Nat.succ_ne_zero _)

theorem before0 (c : Dev nD) (t : Fin cfg0.N) (d) : (dat m c).before 0 t d = iblk m c 0 t :=
  ((dat m c).before_in_eq_fetched 0 rfl (fun _ => rfl) (fun _ _ _ => rfl) (fun t => by
    show iblk m c 0 t = _; unfold Dat.blockOf iblk; rfl) t d).trans (by unfold Dat.fetched Dat.blockOf iblk; rfl)
theorem before1 (c : Dev nD) (t : Fin cfg0.N) (d) : (dat m c).before 1 t d = iblk m c 1 t :=
  ((dat m c).before_in_eq_fetched 1 rfl (fun _ => rfl) (fun _ _ _ => rfl) (fun t => by
    show iblk m c 1 t = _; unfold Dat.blockOf iblk; rfl) t d).trans (by unfold Dat.fetched Dat.blockOf iblk; rfl)

theorem before0_eq (c : Dev nD) (d) : (dat m c).before 0 t0_0 d = bX m c := before0 m c t0_0 d
theorem before1_eq (c : Dev nD) (d) : (dat m c).before 1 t0_0 d = gB m c := before1 m c t0_0 d
theorem after0_eq (c : Dev nD) : (dat m c).after 0 t0_0 = bX m c := rfl
theorem after1_eq (c : Dev nD) : (dat m c).after 1 t0_0 = gB m c := rfl
theorem after2_eq (c : Dev nD) : (dat m c).after 2 t0_0 = res (bX m) (gB m c) c := rfl

theorem owes_in {c : Dev nD} (t : Fin (cfg0.N + 1)) (O : CellTallies nD τ sig Unit) (h0 : (dat m c).owed t = O) :
    owesA (F := F) c O ⊢ ((dat m c).owesAt () t : sProp 𝕄) := by
  unfold owesA Dat.owesAt Pipeline.owesWithin Dat.bound; rw [h0]
  iintro ⟨%W, HO⟩; iexists W; isplitr; · ipureintro; exact fun _ _ => Or.inl trivial
  iexact HO
theorem owes_out {c : Dev nD} (t : Fin (cfg0.N + 1)) (O : CellTallies nD τ sig Unit) (h0 : (dat m c).owed t = O) :
    ((dat m c).owesAt () t : sProp 𝕄) ⊢ owesA (F := F) c O := by
  unfold owesA Dat.owesAt Pipeline.owesWithin; rw [h0]
  iintro ⟨%W, -, HO⟩; iexists W; iexact HO

/-! ## Into the body, and out of it -/

/-- The pieces of the communication buffers no copy lands in. -/
def idle (c : Dev nD) : sProp 𝕄 := iprop(bigSep (Finset.Ico 0 4) (anyP (F := F) c 0) ∗ bigSep (Finset.Ico 0 4) (anyP (F := F) c 1))

theorem enter (X : Blocks F) (c : Dev nD) (hX : bX m = X) :
    iprop(Xk m c ∗ anyC (F := F) c 0 ∗ anyC (F := F) c 1 ∗ owesA (F := F) c (O₀ c) ∗ xPts X c fullShare) ⊢ iprop(∃ K, Enter X K c ∗ idle (F := F) c) := by
  subst hX
  unfold Xk openGh ownCred Enter idle
  iintro ⟨⟨⟨%K, #Hrec, Ht1, Ht2, Hat, ⟨Hs, Hr⟩, Hds, Hdr⟩, ⟨HcB, Hcr⟩, #Hlev⟩, Hc0, Hc1, HO, Hx⟩
  ihave H0 := (comm_range (F := F) c 0).1 $$ Hc0
  icases H0 with ⟨Hi0, Hd0⟩
  ihave H1 := (comm_range (F := F) c 1).1 $$ Hc1
  icases H1 with ⟨Hi1, Hd1⟩
  ihave Hs := (Entails.of_eq (bigSep_sep' (Finset.range 24) (fun n => atPos ER (sndCell c n) 0 ∅ 0) (fun n => reached ER (sndCell c n) 0))) $$ Hs
  icases Hs with ⟨HsA, HsR⟩
  ihave Hr := (Entails.of_eq (bigSep_sep' (Finset.range 24) (fun n => atPos ER (rcvCell c n) 0 ∅ 0) (fun n => reached ER (rcvCell c n) 0))) $$ Hr
  icases Hr with ⟨HrA, HrR⟩
  ihave HrR := (even_odd (fun n => reached ER (rcvCell c n) 0) 12).1 $$ HrR
  icases HrR with ⟨HrE, HrO⟩
  iexists K
  isplitr [Hi0 Hi1]
  swap
  · isplitl [Hi0]; · iexact Hi0
    iexact Hi1
  isplitr; · iexact Hrec
  isplitr; · iexact Hlev
  isplitl [HO]; · iexact HO
  isplitl [Ht1]; · iexact Ht1
  isplitl [Ht2]; · iexact Ht2
  isplitl [Hat]; · iexact Hat
  isplitl [HcB]; · iexact HcB
  isplitl [HrE Hd0]
  · iapply (gather_even c); isplitl [HrE]; · iexact HrE
    iexact Hd0
  isplitl [HrO Hd1]
  · iapply (gather_odd c); isplitl [HrO]; · iexact HrO
    iexact Hd1
  isplitl [Hds Hdr HsA HsR]
  · rw [← range_Ico]; unfold sendTok
    rw [bigSep_sep', bigSep_sep', bigSep_sep']
    isplitl [Hds]; · iexact Hds
    isplitl [Hdr]; · iexact Hdr
    isplitl [HsA]; · iexact HsA
    iexact HsR
  isplitl [HrA Hcr]
  · rw [← range_Ico]; unfold recvTok
    rw [bigSep_sep']
    isplitl [HrA]; · iexact HrA
    iexact Hcr
  iexact Hx

theorem leave (X : Blocks F) (K : GSem nD τ sig → ℕ) (c : Dev nD) (g : (cc0_stg1_0 : Ref sig .tc).ty.Contents (Elt F)) (f : (cc0_stg2_0 : Ref sig .tc).ty.Contents (Elt F))
    (S : sProp (MT nD τ sig Unit (Elt F) ℕ UU ℕ)) :
    iprop(bigSep (Finset.range 24) (sentBack X c) ∗ recs X K ∗ owesA c 0 ∗ bigSep (Finset.range 24) (recvDone (F := F) c) ∗ xPts X c (xr 8)
      ∗ Late X c g (out X g c f) (iprop(atPos ER (barCell c) (0 + 1) ∅ 0 ∗ idle (F := F) c ∗ S)))
    ⊢ |={Set.univ}=> iprop((Yk (F := F) c ∗ ownZero (F := F) c ∗ anyC (F := F) c 0 ∗ anyC (F := F) c 1 ∗ S) ∗ owesA c 0 ∗ xPts X c fullShare ∗ Out c g (res X g c)) := by
  rw [out_eq]
  unfold Late idle Yk ownZero
  iintro ⟨Hs, #Hrec, HO, Hr, Hx, Hout, HL, Hat, ⟨Hi0, Hi1⟩, HS⟩
  ihave Hs := (Entails.of_eq (show bigSep (Finset.range 24) (sentBack X c) = iprop(bigSep (Finset.range 8) (sentBack X c) ∗ bigSep (Finset.Ico 8 24) (sentBack X c)) by
    rw [range_Ico, range_Ico, Ico_join (a := 0) (b := 8) (c := 24) (by decide) (by decide)])) $$ Hs
  icases Hs with ⟨Hs1, Hs2⟩
  ihave H1 := (x_back X c 8 (by decide)) $$ [Hs1 Hx]
  · isplitl [Hs1]; · iexact Hs1
    iexact Hx
  icases H1 with ⟨Ha1, Hx⟩
  ihave H2 := (ps_back X c) $$ Hs2
  icases H2 with ⟨Ha2, Hp0, Hp1⟩
  ihave HL := (last_back X c) $$ HL
  icases HL with ⟨Hl0, Hl1⟩
  imod (close_all X K c) $$ [Hat Ha1 Ha2 Hr] with ⟨Hb, Hz⟩
  · isplitr; · iexact Hrec
    isplitl [Hat]; · iexact Hat
    isplitl [Ha1 Ha2]
    · iapply (Entails.of_eq (show iprop(bigSep (Finset.range 8) (fun n => atPos ER (sndCell c n) (0 + 1) ∅ 0) ∗ bigSep (Finset.Ico 8 24) (fun n => atPos ER (sndCell c n) (0 + 1) ∅ 0))
          = bigSep (Finset.range 24) (fun n => atPos ER (sndCell c n) (0 + 1) ∅ 0) by
        rw [range_Ico, range_Ico, Ico_join (a := 0) (b := 8) (c := 24) (by decide) (by decide)]))
      isplitl [Ha1]; · iexact Ha1
      iexact Ha2
    iexact Hr
  imodintro
  isplitr [HO Hx Hout]
  swap
  · isplitl [HO]; · iexact HO
    isplitl [Hx]; · iexact Hx
    iexact Hout
  isplitl [Hb]; · iexact Hb
  isplitl [Hz]; · iexact Hz
  isplitl [Hi0 Hp0 Hl0]
  · iapply (comm_range (F := F) c 0).2
    isplitl [Hi0]; · iexact Hi0
    isplitl [Hp0]; · iexact Hp0
    iexact Hl0
  isplitl [Hi1 Hp1 Hl1]
  · iapply (comm_range (F := F) c 1).2
    isplitl [Hi1]; · iexact Hi1
    isplitl [Hp1]; · iexact Hp1
    iexact Hl1
  iexact HS

/-- The body at the region's one point: from the buffers as staged to the buffers as left. -/
theorem body_pt (c : Dev nD) (f : (cc0_stg2_0 : Ref sig .tc).ty.Contents (Elt F)) (Q : PUnit → sProp (MT nD τ sig Unit (Elt F) ℕ UU ℕ))
    (hQ : iprop((Yk (F := F) c ∗ ownZero (F := F) c ∗ Side (F := F) c) ∗ owesA (F := F) c 0 ∗ xPts (bX m) c fullShare ∗ Out c (gB m c) (res (bX m) (gB m c) c)) ⊢ Q ⟨⟩) :
    iprop((Xk m c ∗ Side (F := F) c) ∗ owesA (F := F) c (O₀ c) ∗ xPts (bX m) c fullShare ∗ Out c (gB m c) f) ⊢ W c (on (cc0_body (F := F))) Q := by
  unfold Side at hQ ⊢
  iintro ⟨⟨HX, Hc0, Hc1, Hp⟩, HO, Hx, Hout⟩
  ihave H := (enter m (bX m) c rfl) $$ [HX Hc0 Hc1 HO Hx]
  · isplitl [HX]; · iexact HX
    isplitl [Hc0]; · iexact Hc0
    isplitl [Hc1]; · iexact Hc1
    isplitl [HO]; · iexact HO
    iexact Hx
  icases H with ⟨%K, HE, Hi⟩
  iapply (body_run (X := bX m) (K := K) (c := c) (g := gB m c) (f := f) (R := iprop(idle (F := F) c ∗ ∃ r, prngReg c r)) (Q := Q) ?_)
  · refine (leave (bX m) K c (gB m c) f _).trans (fupd_mono hQ)
  · isplitl [HE]; · iexact HE
    isplitl [Hout]; · iexact Hout
    isplitl [Hi]; · iexact Hi
    iexact Hp

theorem whole_any (c : Dev nD) (b : Ref sig .tc) (X : b.ty.Contents (Elt F)) :
    (owns (c : Thread nD τ) (Memref.whole b) fullShare X : sProp 𝕄) = (((c : Thread nD τ).loc b) ↦[Finset.univ]{fullShare} X) := owns_whole (c : Thread nD τ) b fullShare X
theorem whole0 (c : Dev nD) (X : (cc0_stg0_0 : Ref sig .tc).ty.Contents (Elt F)) :
    (owns (c : Thread nD τ) (stage0_0 0) fullShare X : sProp 𝕄) = (((c : Thread nD τ).loc cc0_stg0_0) ↦[Finset.univ]{fullShare} X) := whole_any c cc0_stg0_0 X
theorem whole1 (c : Dev nD) (X : (cc0_stg1_0 : Ref sig .tc).ty.Contents (Elt F)) :
    (owns (c : Thread nD τ) (stage0_1 0) fullShare X : sProp 𝕄) = (((c : Thread nD τ).loc cc0_stg1_0) ↦[Finset.univ]{fullShare} X) := whole_any c cc0_stg1_0 X
theorem whole2 (c : Dev nD) (X : (cc0_stg2_0 : Ref sig .tc).ty.Contents (Elt F)) :
    (owns (c : Thread nD τ) (stage0_2 0) fullShare X : sProp 𝕄) = (((c : Thread nD τ).loc cc0_stg2_0) ↦[Finset.univ]{fullShare} X) := whole_any c cc0_stg2_0 X

theorem xPts_eq (X : Blocks F) (c : Dev nD) : (xPts X c fullShare : sProp 𝕄) = (((c : Thread nD τ).loc cc0_stg0_0) ↦[Finset.univ]{fullShare} X c) := by
  unfold xPts; rw [show xM.view.set = Finset.univ from View.set_whole _]

theorem body_ob (c : Dev nD) : BodyObligation (dat m c) defs₀ 𝒱₀ () Set.univ := fun t => by
  obtain rfl := fin_N0 t
  rw [bigSep_W0, bigSep_W0, Φ_first, Φ_next]
  simp only [before0_eq, before1_eq, after0_eq, after1_eq, after2_eq]
  iintro ⟨HΦ, HO, ⟨%d0, H0⟩, ⟨%d1, H1⟩, ⟨%d2, H2⟩⟩
  ihave HO := (owes_out m (c := c) _ (O₀ c) (owed_first m c)) $$ HO
  ihave H0 := (Entails.of_eq (whole0 c (bX m c))) $$ H0
  ihave H1 := (Entails.of_eq (whole1 c (gB m c))) $$ H1
  ihave H2 := (Entails.of_eq (whole2 c ((dat m c).before 2 t0_0 d2))) $$ H2
  iapply (body_pt m c ((dat m c).before 2 t0_0 d2) _ ?_)
  · rw [xPts_eq]; unfold Out
    iintro ⟨HΦ, HO, H0, H1, H2⟩
    isplitl [HΦ]; · iexact HΦ
    isplitl [HO]; · iapply (owes_in m (c := c) _ 0 (owed_next m c)); iexact HO
    isplitl [H0]; · iapply (Entails.of_eq (whole0 c (bX m c)).symm); iexact H0
    isplitl [H1]; · iapply (Entails.of_eq (whole1 c (gB m c)).symm); iexact H1
    iapply (Entails.of_eq (whole2 c (res (bX m) (gB m c) c)).symm); iexact H2
  · isplitl [HΦ]; · iexact HΦ
    isplitl [HO]; · iexact HO
    isplitl [H0]; · rw [xPts_eq]; iexact H0
    unfold Out
    isplitl [H1]; · iexact H1
    iexact H2

end Cert.KernelIdeal.Ring
-- ==== Proof.KernelIdeal.Fund.lean ====
/-
What the launch gives every device: the records of all cells, the rights and tokens of its own, and the credits of its own cells.
-/
module

public import proofs.«01_k».proof.Proof.KernelIdeal.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem osem_inj : Function.Injective osem := by decide
theorem osem_ne_bar : ∀ k : Fin 2 × Fin 24, osem k ≠ .reg barS := by decide

def barEmb : Dev nD ↪ GSem nD τ sig := ⟨fun c => barCell c, fun _ _ h => congrArg (fun g : GSem nD τ sig => g.1.1) h⟩
def xferEmb : Dev nD × (Fin 2 × Fin 24) ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev xferCells : Finset (GSem nD τ sig) := Finset.univ.map xferEmb

theorem cells_disjoint : Disjoint (barCells : Finset (GSem nD τ sig)) xferCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem bar_mem (c : Dev nD) : barCell c ∈ (barCells ∪ xferCells : Finset (GSem nD τ sig)) :=
  Finset.mem_union_left _ (Finset.mem_map_of_mem barEmb (Finset.mem_univ c))
theorem snd_mem (c : Dev nD) (n : ℕ) (hn : n < 24) : sndCell c n ∈ (barCells ∪ xferCells : Finset (GSem nD τ sig)) :=
  Finset.mem_union_right _ (Finset.mem_map_of_mem xferEmb (Finset.mem_univ (c, ((0 : Fin 2), (⟨n, hn⟩ : Fin 24)))))
theorem rcv_mem (c : Dev nD) (n : ℕ) (hn : n < 24) : rcvCell c n ∈ (barCells ∪ xferCells : Finset (GSem nD τ sig)) :=
  Finset.mem_union_right _ (Finset.mem_map_of_mem xferEmb (Finset.mem_univ (c, ((1 : Fin 2), (⟨n, hn⟩ : Fin 24)))))

theorem bar_each (Φ : GSem nD τ sig → sProp (MT nD τ sig Unit (Elt F) ℕ UU ℕ)) : bigSep barCells Φ = bigSep Finset.univ fun c : Dev nD => Φ (barCell c) :=
  bigSep_map (s := Finset.univ) barEmb (Φ := Φ)
/-- The transfer cells, device by device, at the sender and at the receiver. -/
theorem xfer_each (Φ : GSem nD τ sig → sProp (MT nD τ sig Unit (Elt F) ℕ UU ℕ)) : bigSep xferCells Φ
    = bigSep Finset.univ fun c : Dev nD => iprop(bigSep (Finset.range 24) (fun n => Φ (sndCell c n)) ∗ bigSep (Finset.range 24) (fun n => Φ (rcvCell c n))) := by
  rw [bigSep_map, bigSep_univ_prod]
  refine bigSep_congr fun c _ => ?_
  rw [bigSep_univ_prod, BI.bigSep_fin_two, Ring.bigSep_fin_eq_range 24 _ (fun n => Φ (sndCell c n)) (fun _ _ => rfl),
    Ring.bigSep_fin_eq_range 24 _ (fun n => Φ (rcvCell c n)) (fun _ _ => rfl)]
  rfl

/-! ## The tokens -/

def barTok : Dev nD × Bool ↪ GSem nD τ sig × ℕ × Bool :=
  ⟨fun cb => (barCell cb.1, 0, cb.2), fun _ _ h => Prod.ext (congrArg (fun t : GSem nD τ sig × ℕ × Bool => t.1.1.1) h) (congrArg (fun t : GSem nD τ sig × ℕ × Bool => t.2.2) h)⟩
def xferTok : GSem nD τ sig ↪ GSem nD τ sig × ℕ × Bool := ⟨fun g => (g, 0, false), fun _ _ h => congrArg (fun t : GSem nD τ sig × ℕ × Bool => t.1) h⟩
def ringToks : Finset (GSem nD τ sig × ℕ × Bool) := Finset.univ.map barTok ∪ xferCells.map xferTok
theorem toks_disjoint : Disjoint (Finset.univ.map barTok) (xferCells.map xferTok) := by
  rw [Finset.disjoint_left]
  rintro t h₁ h₂
  obtain ⟨cb, -, rfl⟩ := Finset.mem_map.mp h₁
  obtain ⟨g, hg, h⟩ := Finset.mem_map.mp h₂
  have e : g = barCell cb.1 := congrArg (fun t : GSem nD τ sig × ℕ × Bool => t.1) h
  subst e
  exact Finset.disjoint_left.mp cells_disjoint (Finset.mem_map_of_mem barEmb (Finset.mem_univ cb.1)) hg

def rotN : Dev nD ≃ Dev nD := ⟨nxt, prv, prv_nxt, nxt_prv⟩
def rotC : Dev nD × Fin 24 ≃ Dev nD × Fin 24 :=
  ⟨fun p => (dest p.2.val p.1, p.2), fun p => (orig p.2.val p.1, p.2), fun p => Prod.ext (orig_dest _ _) rfl, fun p => Prod.ext (dest_orig _ _) rfl⟩

/-- The tokens a device spends: two at its neighbours' barrier cells, one at each of its sending cells, one at each cell its copies land on. -/
def spend (c : Dev nD) : sProp 𝕄 :=
  iprop((dutyTok ER (barCell (prv c)) 0 false ∗ dutyTok ER (barCell (nxt c)) 0 true)
    ∗ (bigSep (Finset.range 24) (fun n => dutyTok ER (sndCell c n) 0 false) ∗ bigSep (Finset.range 24) (fun n => dutyTok ER (rcvCell (dest n c) n) 0 false)))

theorem rcv_around (Φ : GSem nD τ sig → sProp (MT nD τ sig Unit (Elt F) ℕ UU ℕ)) :
    (bigSep Finset.univ fun c : Dev nD => bigSep (Finset.range 24) fun n => Φ (rcvCell c n))
      = bigSep Finset.univ fun c : Dev nD => bigSep (Finset.range 24) fun n => Φ (rcvCell (dest n c) n) := by
  have e : ∀ c : Dev nD, bigSep (Finset.range 24) (fun n => Φ (rcvCell c n)) = bigSep Finset.univ (fun n : Fin 24 => Φ (rcvCell c n.val)) :=
    fun c => (Ring.bigSep_fin_eq_range 24 _ (fun n => Φ (rcvCell c n)) (fun _ _ => rfl)).symm
  have e' : ∀ c : Dev nD, bigSep (Finset.range 24) (fun n => Φ (rcvCell (dest n c) n)) = bigSep Finset.univ (fun n : Fin 24 => Φ (rcvCell (dest n.val c) n.val)) :=
    fun c => (Ring.bigSep_fin_eq_range 24 _ (fun n => Φ (rcvCell (dest n c) n)) (fun _ _ => rfl)).symm
  rw [bigSep_congr fun c _ => e c, bigSep_congr fun c _ => e' c,
    ← bigSep_univ_prod (fun p : Dev nD × Fin 24 => Φ (rcvCell p.1 p.2.val)),
    ← bigSep_univ_prod (fun p : Dev nD × Fin 24 => Φ (rcvCell (dest p.2.val p.1) p.2.val)),
    bigSep_univ_equiv rotC (fun p : Dev nD × Fin 24 => Φ (rcvCell p.1 p.2.val))]
  rfl

theorem toks_deal : bigSep ringToks (fun x => (dutyTok ER x.1 x.2.1 x.2.2 : sProp 𝕄)) ⊢ bigSep Finset.univ fun c : Dev nD => spend (F := F) c := by
  have hb : bigSep (Finset.univ.map barTok) (fun x => (dutyTok ER x.1 x.2.1 x.2.2 : sProp 𝕄))
      = iprop((bigSep Finset.univ fun c : Dev nD => dutyTok ER (barCell (prv c)) 0 false) ∗ bigSep Finset.univ fun c : Dev nD => dutyTok ER (barCell (nxt c)) 0 true) := by
    rw [bigSep_map, bigSep_univ_prod, show (bigSep Finset.univ fun c : Dev nD => (dutyTok ER (barCell (nxt c)) 0 true : sProp 𝕄)) = bigSep Finset.univ fun c : Dev nD => dutyTok ER (barCell c) 0 true
        from (bigSep_univ_equiv rotN (fun c : Dev nD => (dutyTok ER (barCell c) 0 true : sProp 𝕄))).symm,
      show (bigSep Finset.univ fun c : Dev nD => (dutyTok ER (barCell (prv c)) 0 false : sProp 𝕄)) = bigSep Finset.univ fun c : Dev nD => dutyTok ER (barCell c) 0 false
        from (bigSep_univ_equiv rotN.symm (fun c : Dev nD => (dutyTok ER (barCell c) 0 false : sProp 𝕄))).symm]
    rw [show (iprop((bigSep Finset.univ fun c : Dev nD => dutyTok ER (barCell c) 0 false) ∗ bigSep Finset.univ fun c : Dev nD => dutyTok ER (barCell c) 0 true) : sProp 𝕄)
        = bigSep Finset.univ fun c : Dev nD => iprop(dutyTok ER (barCell c) 0 false ∗ dutyTok ER (barCell c) 0 true) from (bigSep_sep' _ _ _).symm]
    refine bigSep_congr fun c _ => ?_
    rw [show (Finset.univ : Finset Bool) = {false, true} by decide, BI.bigSep_insert (by decide), BI.bigSep_singleton]; rfl
  have hx : bigSep (xferCells.map xferTok) (fun x => (dutyTok ER x.1 x.2.1 x.2.2 : sProp 𝕄))
      = iprop((bigSep Finset.univ fun c : Dev nD => bigSep (Finset.range 24) (fun n => dutyTok ER (sndCell c n) 0 false))
        ∗ (bigSep Finset.univ fun c : Dev nD => bigSep (Finset.range 24) (fun n => dutyTok ER (rcvCell (dest n c) n) 0 false))) := by
    rw [bigSep_map, show (fun i => (dutyTok ER (xferTok i).1 (xferTok i).2.1 (xferTok i).2.2 : sProp 𝕄)) = (fun g => dutyTok ER g 0 false) from rfl, xfer_each, bigSep_sep',
      rcv_around (fun g => (dutyTok ER g 0 false : sProp 𝕄))]
  unfold ringToks
  rw [bigSep_union toks_disjoint, hb, hx]
  unfold spend
  rw [bigSep_sep', bigSep_sep', bigSep_sep']
  exact BI.Entails.refl _

/-! ## The records -/

def records (m : (ℓ : Loc nD τ sig) → Buf (Elt F) ℓ) (κ : GSem nD τ sig → ℕ) : sProp 𝕄 :=
  iprop((bigSep (barCells ∪ xferCells) fun g => cellInv ER (ringRd (bX m)) (κ g) g) ∗ bigSep barCells fun g => reached ER g 0)
instance records_persistent (m : (ℓ : Loc nD τ sig) → Buf (Elt F) ℓ) (κ : GSem nD τ sig → ℕ) : BI.Persistent (records m κ) := by unfold records; infer_instance

theorem rec_inv (m : (ℓ : Loc nD τ sig) → Buf (Elt F) ℓ) (κ : GSem nD τ sig → ℕ) {g : GSem nD τ sig} (hg : g ∈ (barCells ∪ xferCells : Finset (GSem nD τ sig))) :
    records m κ ⊢ (cellInv ER (ringRd (bX m)) (κ g) g : sProp 𝕄) := by
  unfold records
  iintro ⟨H, -⟩
  iapply (bs_elim hg (Φ := fun g => (cellInv ER (ringRd (bX m)) (κ g) g : sProp 𝕄))) $$ H
theorem rec_reached (m : (ℓ : Loc nD τ sig) → Buf (Elt F) ℓ) (κ : GSem nD τ sig → ℕ) (c : Dev nD) : records m κ ⊢ (reached ER (barCell c) 0 : sProp 𝕄) := by
  unfold records
  iintro ⟨-, H⟩
  iapply (bs_elim (Finset.mem_map_of_mem barEmb (Finset.mem_univ c)) (Φ := fun g => (reached ER g 0 : sProp 𝕄))) $$ H

theorem bs_intro {ι : Type} [DecidableEq ι] {s : Finset ι} {R : sProp (MT nD τ sig Unit (Elt F) ℕ UU ℕ)} [BI.Persistent R] {Φ : ι → sProp (MT nD τ sig Unit (Elt F) ℕ UU ℕ)}
    (h : ∀ i ∈ s, R ⊢ Φ i) : R ⊢ bigSep s Φ := (bigSep_of_persistent s R).trans (bigSep_mono h)

theorem records_recs (m : (ℓ : Loc nD τ sig) → Buf (Elt F) ℓ) (κ : GSem nD τ sig → ℕ) : records m κ ⊢ recs (bX m) κ := by
  unfold recs
  refine bs_intro fun e _ => ?_
  iintro #H
  isplitr; · iapply (rec_inv m κ (bar_mem e)); iexact H
  isplitr; · iapply (rec_reached m κ e); iexact H
  iapply (bs_intro (R := records m κ) fun n hn => ?_)
  · iintro #H
    isplitr; · iapply (rec_inv m κ (snd_mem e n (Finset.mem_range.mp hn))); iexact H
    iapply (rec_inv m κ (rcv_mem e n (Finset.mem_range.mp hn))); iexact H
  · iexact H

/-! ## The credits -/

theorem rcv_inj {c e : Dev nD} {n i : ℕ} (hn : n < 24) (hi : i < 24) (h : rcvCell c n = rcvCell e i) : c = e ∧ n = i := by
  refine ⟨congrArg (fun g : GSem nD τ sig => g.1.1) h, ?_⟩
  have h2 : rcvS n = rcvS i := SemLoc.dma.inj (congrArg Prod.snd h)
  rw [← (rcv_facts n hn).1, ← (rcv_facts i hi).1, h2]
theorem rcv_ne_bar (c e : Dev nD) (n : ℕ) : rcvCell c n ≠ barCell e := fun h => by
  have e : (SemLoc.dma (rcvS n) : SemLoc sig) = .reg barS := congrArg Prod.snd h
  cases e
theorem bar_inj {c e : Dev nD} (h : barCell c = barCell e) : c = e := congrArg (fun g : GSem nD τ sig => g.1.1) h

theorem owed_bar (d c : Dev nD) : O₀ d (barCell c) () = (if nxt d = c then 1 else 0) + (if prv d = c then 1 else 0) := by
  unfold O₀
  rw [Pi.add_apply, Finsupp.add_apply, Pi.add_apply, Finsupp.add_apply]
  have h0 : Ofrom d 0 (barCell c) () = 0 := by
    by_contra hne
    obtain ⟨i, -, -, h⟩ := Ofrom_pos d 0 (barCell c) () (Nat.pos_of_ne_zero hne)
    exact rcv_ne_bar _ _ _ h.symm
  rw [h0, Nat.zero_add, tallyAt_apply, tallyAt_apply]
  refine congrArg₂ (· + ·) ?_ ?_
  · by_cases h : nxt d = c
    · subst h; rw [if_pos ⟨rfl, rfl⟩, if_pos rfl]
    · rw [if_neg (fun hh => h (bar_inj hh.1).symm), if_neg h]
  · by_cases h : prv d = c
    · subst h; rw [if_pos ⟨rfl, rfl⟩, if_pos rfl]
    · rw [if_neg (fun hh => h (bar_inj hh.1).symm), if_neg h]

theorem owed_rcv (d c : Dev nD) (n : ℕ) (hn : n < 24) : O₀ d (rcvCell c n) () = if d = orig n c then N else 0 := by
  unfold O₀ Ofrom
  rw [Pi.add_apply, Finsupp.add_apply, Pi.add_apply, Finsupp.add_apply, tallyAt_ne_cell (rcv_ne_bar _ _ _), tallyAt_ne_cell (rcv_ne_bar _ _ _),
    Finsupp.zero_apply, Nat.add_zero, Nat.add_zero, Finset.sum_apply, Finsupp.finset_sum_apply, Finset.sum_eq_single n]
  · rw [tallyAt_apply]
    by_cases h : d = orig n c
    · subst h; rw [dest_orig, if_pos ⟨rfl, rfl⟩, if_pos rfl]
    · rw [if_neg (fun hh => h (by rw [(rcv_inj hn hn hh.1).1, orig_dest])), if_neg h]
  · intro i hi hne
    rw [tallyAt_ne_cell (fun h => hne (rcv_inj hn (Finset.mem_Ico.mp hi).2 h).2.symm), Finsupp.zero_apply]
  · intro h; exact absurd (Finset.mem_Ico.mpr ⟨Nat.zero_le n, hn⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_rcv (c : Dev nD) (n : ℕ) (hn : n < 24) :
    tallyOn (rcvCell c n) (launchCredit (Pipeline.owing O₀) 0 (rcvCell c n)) = (tallyAt (rcvCell c n) () N : CellTallies nD τ sig Unit) := by
  unfold tallyAt; refine congrArg _ (Finsupp.ext fun u => ?_); cases u
  rw [Pipeline.launchCredit_owing, Finsupp.single_eq_same, Finset.sum_congr rfl fun d _ => owed_rcv d c n hn, Finset.sum_ite_eq' Finset.univ (orig n c) fun _ => N,
    if_pos (Finset.mem_univ _)]

def rcvEmb : Fin 24 ↪ SemLoc sig := ⟨fun n => .dma (rcvS n.val), by decide⟩

theorem creds (c : Dev nD) : (Pipeline.launchCred O₀ c : sProp 𝕄) ⊢ ownCred (F := F) c := by
  have h : bigSep Finset.univ (fun n : Fin 24 => (cred (tallyOn (rcvCell c n.val) (launchCredit (Pipeline.owing O₀) 0 (rcvCell c n.val))) : sProp 𝕄))
      = bigSep (Finset.range 24) (fun n => cred (tallyAt (rcvCell c n) () N)) := by
    rw [← Ring.bigSep_fin_eq_range 24 (fun n : Fin 24 => (cred (tallyAt (rcvCell c n.val) () N) : sProp 𝕄)) (fun n => (cred (tallyAt (rcvCell c n) () N) : sProp 𝕄)) (fun _ _ => rfl)]
    exact bigSep_congr fun n _ => congrArg cred (launch_rcv c n.val n.isLt)
  unfold Pipeline.launchCred ownCred
  refine (bigSep_subset (t := insert (.reg barS) (Finset.univ.map rcvEmb)) (Finset.subset_univ _)).trans ?_
  rw [bigSep_insert (by decide), launch_bar, bigSep_map, ← h]
  exact BI.Entails.refl _

end Cert.KernelIdeal.Ring
-- ==== Proof.KernelIdeal.Run.lean ====
/-
The run of @main on the four devices: the launch deals the protocol out, the two reshapes and the region run, every semaphore ends at zero.
-/
module

public import proofs.«01_k».proof.Proof.KernelIdeal.Fund

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

def bufs : Finset (DevRef τ sig) := (StableHlo.tcRefs τ sig).filter fun b => ¬ b.isScoped
abbrev arrs : Finset (DevRef τ sig) := Pipeline.arrRefs (τ := τ) spec0
/-- The buffers the region does not window: the arguments as launched. -/
def rest : Finset (DevRef τ sig) := {Proc.devRef .tc main_arg0, Proc.devRef .tc main_arg1}

theorem bufs_split (c : Dev nD) (W : Valuation τ sig (Elt F)) :
    (StableHlo.held (c : Thread nD τ) bufs W : sProp 𝕄) = iprop(StableHlo.held (c : Thread nD τ) arrs W ∗ StableHlo.held (c : Thread nD τ) rest W) := by
  rw [StableHlo.held_sub_split (c : Thread nD τ) (show arrs ⊆ bufs by decide) W, show bufs \ arrs = rest by decide]

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev V₀ (c : Dev nD) : Valuation τ sig (Elt F) := fun b => m (c, b)
abbrev V₁ (c : Dev nD) : Valuation τ sig (Elt F) := StableHlo.after hostOps0 (V₀ m c)
/-- The result array as the region leaves it. -/
def resArr (c : Dev nD) : Buf (Elt F) ((c : Thread nD τ).loc main_v3) := (dat m c).arrAt 2 1
def V₂ (c : Dev nD) : Valuation τ sig (Elt F) := Function.update (V₁ m c) (Proc.devRef .tc main_v3) (resArr m c)

theorem V₂_v3 (c : Dev nD) : V₂ m c main_v3 = resArr m c := Function.update_self _ _ _
theorem V₂_of_ne (c : Dev nD) (b : DevRef τ sig) (h : b ≠ Proc.devRef .tc main_v3) : V₂ m c b = V₁ m c b := Function.update_of_ne h _ _

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers through the host operations. -/
def Ride (c : Dev nD) : sProp 𝕄 := iprop(Tk m c ∗ (∃ r, prngReg c r) ∗ owesA (F := F) c (O₀ c))

theorem hops_sub : ∀ op ∈ (hostOps0 : List (HloOp τ sig (Elt F))), op.bufs ⊆ bufs := by
  rw [← List.forall_iff_forall_mem]
  exact ⟨(by decide : ({Proc.devRef .tc main_arg0, Proc.devRef .tc main_v1} : Finset (DevRef τ sig)) ⊆ bufs),
    (by decide : ({Proc.devRef .tc main_arg1, Proc.devRef .tc main_v2} : Finset (DevRef τ sig)) ⊆ bufs)⟩
def seg0 : ℍ := Pipeline.HostSeg.ofOps _ _ _ _ _ bufs hostOps0 hops_sub (List.forall_iff_forall_mem.mp hostOps0_fresh) (V₀ m) (Ride m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply, tallyAt_apply, tallyAt_apply] at h
  have bar : ∀ e : Dev nD, g = barCell e → u ∈ L g ∧ 0 < lv g u := fun e he => by
    subst he; exact ⟨by rw [L_tc]; exact Finset.mem_singleton_self _, Nat.one_pos⟩
  by_cases h1 : 0 < Ofrom c 0 g u
  · obtain ⟨i, -, hi, rfl⟩ := Ofrom_pos c 0 g u h1
    exact ⟨by rw [L_tc]; exact Finset.mem_singleton_self _, by rw [lv_rcv _ _ hi]; omega⟩
  · by_cases h2 : g = barCell (nxt c)
    · exact bar _ h2
    · by_cases h3 : g = barCell (prv c)
      · exact bar _ h3
      · rw [if_neg (fun hh => h2 hh.1), if_neg (fun hh => h3 hh.1)] at h; omega

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem held_none (c : Dev nD) (W : Valuation τ sig (Elt F)) : (StableHlo.held (c : Thread nD τ) ∅ W : sProp 𝕄) = BI.emp := BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ Side (F := F) c) from Φ_first m c]
  rw [show (Pipeline.scopedRest (Pipeline.pin (pcfgs (F := F)) adm 0).spec c : sProp 𝕄) = iprop(anyC (F := F) c 0 ∗ anyC (F := F) c 1) from scopedRest0_eq c]
  unfold Side
  iintro ⟨⟨H0, H1⟩, Hp, -, HX⟩
  isplitl [HX]; · iexact HX
  isplitl [H0]; · iexact H0
  isplitl [H1]; · iexact H1
  iexact Hp
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(Yk (F := F) c ∗ ownZero (F := F) c ∗ Side (F := F) c) from Φ_next m c, ownSems_eq, held_none]
  rw [show (Pipeline.scopedRest (Pipeline.pin (pcfgs (F := F)) adm 0).spec c : sProp 𝕄) = iprop(anyC (F := F) c 0 ∗ anyC (F := F) c 1) from scopedRest0_eq c]
  unfold Side
  iintro ⟨HY, HZ, H0, H1, Hp⟩
  isplitl [H0 H1]; · isplitl [H0] <;> iassumption
  isplitl [Hp]; · iexact Hp
  isplitr; · iempintro
  isplitl [HZ]; · iexact HZ
  iexact HY

theorem arr_in (c : Dev nD) : ∀ w, (pdats m 0 c).arrAt w (Pipeline.pin (pcfgs (F := F)) adm 0).N = V₂ m c (Proc.devRef .tc (Pipeline.arrRef (Pipeline.pin (pcfgs (F := F)) adm 0).spec w))
  | 0 => ((dat m c).arrAt_in 0 rfl _).trans (V₂_of_ne m c _ (StableHlo.devRef_ne_of_ne (by decide))).symm
  | 1 => ((dat m c).arrAt_in 1 rfl _).trans (V₂_of_ne m c _ (StableHlo.devRef_ne_of_ne (by decide))).symm
  | 2 => (congrArg ((dat m c).arrAt 2) N_0).trans (V₂_v3 m c).symm
  | ⟨_ + 3, h⟩ => absurd h (Nat.not_lt.2 (Nat.le_add_left _ _))

theorem rest_same (c : Dev nD) : ∀ b ∈ rest \ (∅ : Finset (DevRef τ sig)), V₂ m c b = V₁ m c b := fun b hb =>
  V₂_of_ne m c b (by revert hb; revert b; decide)

theorem isSem (c : Dev nD) (w : Fin 3) (s : Fin ((Pipeline.pin (pcfgs (F := F)) adm 0).win w).nbuf) :
    lv ((c : Thread nD τ), .dma (((Pipeline.pin (pcfgs (F := F)) adm 0).win w).sem s)) () ≤ 0 := by
  have h : ∀ (w : Fin 3) (s : Fin (spec0 w).nbuf), isOwn ((spec0 w).sem s) = false := by decide
  show (if isOwn ((spec0 w).sem s) && isRecv ((spec0 w).sem s) then copyOf ((spec0 w).sem s) + 2 else 0) ≤ 0
  rw [h w s, Bool.false_and]; exact Nat.le_refl 0

set_option backward.isDefEq.respectTransparency.types false in
def reg : ℝ𝕊 0 :=
  Pipeline.RegionSeg.ofTalk (pcfgs (F := F)) adm (pdats m) () defs₀ 𝒱₀ L lv 0 osem osem_facts
    ∅ rest (Finset.empty_subset _) kitP rfl (fun c => (body_ob m c).loose)
    (fun _ => 0) O₀ (fun c => (owed_first m c).trans (zero_add _).symm) (fun c => owed_next m c) (fun _ => rfl) (fun _ _ => by unfold Dat.share; split <;> rfl)
    (V₁ m) (V₂ m) (rest_same m)
    (Tk m) Yk (Xk m) Yk (hopen m) (hin m) (hout m)
    (fun c => by iintro H; imodintro; iexact H)
    (fun _ => 0)
    ⟨fun c _ _ => by rw [L_tc]; exact Finset.mem_singleton_self _, isSem, fun c t g i h => cutD m c t g i h⟩
    (fun _ => iprop(emp))
    (fun _ _ => rfl) (arr_in m)

def segs : List (Pipeline.Seg (pcfgs (F := F)) adm (pdats m) () defs₀ 𝒱₀ L lv) := [.host (seg0 m), .region (reg m)]
theorem main_eq (c : Dev nD) : main (F := F) c = Pipeline.Seg.run (segs m) := main_segs adm (pdats m) () 𝒱₀ L lv (seg0 m) (reg m) rfl c

/-! ## From the launch -/

def u₀ : UU :=
  (initOf (Pipeline.cells (Pipeline.pin (pcfgs (F := F)) adm) cellOf_inj) (Pipeline.launchToks (Pipeline.pin (pcfgs (F := F)) adm) cellOf_inj),
    launchOf barCells xferCells ringToks)
/-- The ring's launch element, kept on device 0 until it is dealt. -/
def G (c : Dev nD) : sProp 𝕄 := if c = 0 then BI.own (ER (launchOf barCells xferCells ringToks)) else iprop(emp)
theorem G_all : bigSep Finset.univ (G (F := F)) = BI.own (ER (launchOf barCells xferCells ringToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ Ride m c)
abbrev Tₙ (c : Dev nD) : sProp 𝕄 := iprop(StableHlo.held (c : Thread nD τ) bufs (V₂ m c) ∗ semVal (barCell c) 0)

def opens (c : Dev nD) : sProp 𝕄 := iprop(bigSep (Finset.range 24) (fun n => openTok ER (sndCell c n)) ∗ bigSep (Finset.range 24) (fun n => openTok ER (rcvCell c n)))
def bundle (c : Dev nD) : sProp 𝕄 :=
  iprop(StableHlo.held (c : Thread nD τ) bufs (V₀ m c) ∗ ownCred (F := F) c ∗ (∃ r, prngReg c r) ∗ owesA (F := F) c (O₀ c))

theorem T₀_intro (κ : GSem nD τ sig → ℕ) (c : Dev nD) :
    iprop(records m κ ∗ ((atPos ER (barCell c) 0 ∅ 0 ∗ opens (F := F) c ∗ spend (F := F) c) ∗ bundle m c)) ⊢ T₀ m c := by
  unfold bundle T₀ Ride Tk closedGh opens spend
  iintro ⟨#HR, ⟨Hat, Ho, ⟨⟨Ht1, Ht2⟩, Hds, Hdr⟩⟩, Hh, Hc, Hp, HO⟩
  isplitl [Hh]; · iexact Hh
  isplitr [Hp HO]
  swap
  · isplitl [Hp]; · iexact Hp
    iexact HO
  isplitr [Hc]
  swap; · iexact Hc
  iexists κ
  isplitr; · iapply (records_recs m κ); iexact HR
  isplitl [Ht1]; · iexact Ht1
  isplitl [Ht2]; · iexact Ht2
  isplitl [Hat]; · iexact Hat
  isplitl [Ho]; · iexact Ho
  isplitl [Hds]; · iexact Hds
  iexact Hdr

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from unscoped_held c (V₀ m c),
    unscoped_sems]
  unfold bundle owesA
  iintro ⟨Hh, Hus, HO, Hcr, Hp, HG⟩
  isplitl [Hh HO Hcr Hp]
  · isplitl [Hh]; · iexact Hh
    isplitl [Hcr]; · iapply (creds (F := F) c); iexact Hcr
    isplitl [Hp]; · iexists (ρ c); iexact Hp
    iexists ∅; iexact HO
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hopens : bigSep xferCells (fun g => (openTok ER g : sProp 𝕄)) ⊢ bigSep Finset.univ (opens (F := F)) :=
    Entails.of_eq (xfer_each (fun g => (openTok ER g : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_init m ρ c) $$ H
  ihave H2 := (Entails.of_eq (bigSep_sep' Finset.univ _ _)) $$ H'; icases H2 with ⟨HB, H3⟩
  ihave H4 := (Entails.of_eq (bigSep_sep' Finset.univ _ _)) $$ H3; icases H4 with ⟨Hv, HG⟩
  ihave Hu := (Entails.of_eq (G_all (F := F))) $$ HG
  imod (Rounds.fund_launch ER (ringRd (bX m)) cells_disjoint (fun g _ h => h) ringToks) $$ [Hv Hu] with ⟨%κ, -, #Hinv, #Hr, Hat, Hopen, Htok⟩
  · isplitl [Hv]
    · iapply (Entails.of_eq (bar_each (fun g => (semVal g 0 : sProp 𝕄))).symm) $$ Hv
    · iexact Hu
  imodintro
  iapply (bigSep_with_persistent (R := records m κ) (Φ := fun c => iprop((atPos ER (barCell c) 0 ∅ 0 ∗ opens (F := F) c ∗ spend (F := F) c) ∗ bundle m c)) fun c _ => T₀_intro m κ c)
  isplitr
  · unfold records
    isplitr; · iexact Hinv
    iexact Hr
  iapply (Entails.of_eq (bigSep_sep' Finset.univ _ _).symm)
  isplitr [HB]
  · iapply (Entails.of_eq (bigSep_sep' Finset.univ _ _).symm); isplitl [Hat]; · iapply (Entails.of_eq (bar_each (fun g => (atPos ER g 0 ∅ 0 : sProp 𝕄)))) $$ Hat
    iapply (Entails.of_eq (bigSep_sep' Finset.univ _ _).symm); isplitl [Hopen]; · iapply hopens $$ Hopen
    iapply (toks_deal (F := F)) $$ Htok
  · iexact HB

theorem region_pre (c : Dev nD) : iprop(StableHlo.held (c : Thread nD τ) bufs (V₁ m c) ∗ Ride m c) ⊢ (reg m).pre c := by
  show _ ⊢ iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + O₀ c) Wd)
  rw [bufs_split, zero_add]
  unfold Ride owesA
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem region_post (c : Dev nD) : (reg m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  unfold Tₙ Yk
  rw [bufs_split]
  iintro ⟨Ha, -, ⟨Hr, -⟩, Hb, HO⟩
  isplitr [HO]
  swap; · iexact HO
  isplitr [Hb]
  swap; · iexact Hb
  isplitl [Ha]; · iexact Ha
  iexact Hr

theorem unscoped_eq : ∀ sm : SemLoc sig, sm.isScoped .tc = false → sm = .reg barS := by decide

/-- What the end of the run is read off. -/
theorem ends (c : Dev nD) : (StableHlo.held (c : Thread nD τ) bufs (V₂ m c) : sProp 𝕄)
    ⊢ iprop((((c : Thread nD τ).loc main_arg0) ↦[Finset.univ]{fullShare} V₂ m c main_arg0) ∗ (((c : Thread nD τ).loc main_arg1) ↦[Finset.univ]{fullShare} V₂ m c main_arg1)
      ∗ (((c : Thread nD τ).loc main_v3) ↦[Finset.univ]{fullShare} V₂ m c main_v3)) := by
  refine (show _ ⊢ StableHlo.held (c : Thread nD τ) ({Proc.devRef .tc main_arg0, Proc.devRef .tc main_arg1, Proc.devRef .tc main_v3} : Finset (DevRef τ sig)) (V₂ m c) from
    bigSep_subset (by decide)).trans ?_
  unfold StableHlo.held
  rw [bigSep_insert (by decide), bigSep_insert (by decide), bigSep_singleton]
  exact BI.Entails.refl _

set_option backward.isDefEq.respectTransparency.types false in
/-- The run: from any memory with every counter at zero, @main on the four devices terminates; the arguments end as they were, the result as the region
    leaves it, and every semaphore of the machine at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = resArr m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => region_pre m c, fun c => region_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v3) = V₂ m c main_v3) ∧ s.sem (barCell c) = 0)
    (hfin := fun c s' => by
      dsimp only [Tₙ]
      iintro ⟨⟨Hh, Hb0⟩, HSI⟩
      ihave Hh := (ends m c) $$ Hh
      icases Hh with ⟨H0, H1, H3⟩
      icombine HSI H0 gives %h0
      icombine HSI H1 gives %h1
      icombine HSI H3 gives %h3
      icombine HSI Hb0 gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        refine ⟨h0.trans ?_, h1.trans ?_, h3.trans (V₂_v3 m c)⟩
        · exact (V₂_of_ne m c _ (StableHlo.devRef_ne_of_ne (by decide))).trans (V_main_arg0 m c)
        · exact (V₂_of_ne m c _ (StableHlo.devRef_ne_of_ne (by decide))).trans (V_main_arg1 m c),
      sem_eq_zero hs fun c sm hsm => by
        obtain rfl := unscoped_eq sm hsm
        exact (h c).2⟩)

end Cert.KernelIdeal.Ring
-- ==== Proof.KernelIdeal.Value.lean ====
/- The finished rows read at an index, on exact numbers: each device's piece of the sum over the four devices, divided by
   its root mean square and scaled. -/
module

public import proofs.«01_k».proof.Proof.KernelIdeal.Out
public import Idealize.ShloMosaic.Lib.Pointwise.Tactic
public import Idealize.ShloMosaic.Lib.Pointwise.Reduce
public import Idealize.ShloMosaic.Lib.Pointwise.Sums
public import Idealize.ShloMosaic.Lib.Pointwise.Reshape
public import Idealize.ShloMosaic.Lib.Pointwise.Select

@[expose] public section

noncomputable section

namespace Cert.KernelIdeal.Ring

open Cert.KernelIdeal Cert.KernelIdeal.Gen
open Idealize.ShloMosaic

variable {F : FTy → Type} [FloatOps F]

/-! ### Where the pieces of the input lie -/

theorem off1_eq : ∀ (c : Dev nD) (k : Fin 4) (a : Fin 2),
    k0_off1 c (BitVec.ofNat 32 (256 * k.val)) a = ![1024 * ((c.val + 3) % 4) + 256 * k.val, 0] a := by decide
theorem off2_eq : ∀ (c : Dev nD) (k : Fin 4) (a : Fin 2),
    k0_off2 c (BitVec.ofNat 32 (256 * k.val)) a = ![1024 * ((c.val + 1) % 4) + 256 * k.val, 512] a := by decide
theorem off3_eq : ∀ (c : Dev nD) (h : Fin 3) (k : Fin 4) (a : Fin 2),
    k0_off3 c (BitVec.ofNat 32 h.val) (BitVec.ofNat 32 (256 * k.val)) a = ![1024 * ((c.val + 6 - h.val) % 4) + 256 * k.val, 0] a := by decide
theorem off4_eq : ∀ (c : Dev nD) (h : Fin 3) (k : Fin 4) (a : Fin 2),
    k0_off4 c (BitVec.ofNat 32 h.val) (BitVec.ofNat 32 (256 * k.val)) a = ![1024 * ((c.val + 2 + h.val) % 4) + 256 * k.val, 512] a := by decide

/-- The index of the input at row `y 0` of sub-block `k` of device `b`'s rows, column `y 1` of half `d`. -/
def at4 (b : Fin 4) (k : Fin 4) (d : Fin 2) (y : S256x512.Idx) : S4096x1024.Idx :=
  ix2 ⟨1024 * b.val + 256 * k.val + (y 0).val, by have h : (y 0).val < 256 := (y 0).isLt; have := b.isLt; have := k.isLt; omega⟩
    ⟨512 * d.val + (y 1).val, by have h : (y 1).val < 512 := (y 1).isLt; have := d.isLt; omega⟩

variable (X : Blocks F)

theorem xSrc0_apply (k : Fin 4) (c b : Dev nD) (hb : b.val = (c.val + 3) % 4) (y : S256x512.Idx) :
    (xSrc 0 k c).view.read (Elt F) (X c) y = X c (at4 b k 0 y) := by
  show X c _ = X c _
  refine congrArg (X c) (funext fun a => Fin.ext ?_)
  fin_cases a
  · show k0_off1 c (BitVec.ofNat 32 (256 * k.val)) 0 + 1 * (y 0).val = 1024 * b.val + 256 * k.val + (y 0).val
    rw [off1_eq, Nat.one_mul, hb]; rfl
  · show k0_off1 c (BitVec.ofNat 32 (256 * k.val)) 1 + 1 * (y 1).val = 512 * 0 + (y 1).val
    rw [off1_eq, Nat.one_mul]; rfl

theorem xSrc1_apply (k : Fin 4) (c b : Dev nD) (hb : b.val = (c.val + 1) % 4) (y : S256x512.Idx) :
    (xSrc 1 k c).view.read (Elt F) (X c) y = X c (at4 b k 1 y) := by
  show X c _ = X c _
  refine congrArg (X c) (funext fun a => Fin.ext ?_)
  fin_cases a
  · show k0_off2 c (BitVec.ofNat 32 (256 * k.val)) 0 + 1 * (y 0).val = 1024 * b.val + 256 * k.val + (y 0).val
    rw [off2_eq, Nat.one_mul, hb]; rfl
  · show k0_off2 c (BitVec.ofNat 32 (256 * k.val)) 1 + 1 * (y 1).val = 512 * 1 + (y 1).val
    rw [off2_eq, Nat.one_mul]; rfl

theorem xTerm0_apply (h : Fin 3) (k : Fin 4) (c b : Dev nD) (hb : b.val = (c.val + 6 - h.val) % 4) (y : S256x512.Idx) :
    xTerm X 0 h k c y = X c (at4 b k 0 y) := by
  show X c _ = X c _
  refine congrArg (X c) (funext fun a => Fin.ext ?_)
  fin_cases a
  · show k0_off3 c (BitVec.ofNat 32 h.val) (BitVec.ofNat 32 (256 * k.val)) 0 + 1 * (y 0).val = 1024 * b.val + 256 * k.val + (y 0).val
    rw [off3_eq, Nat.one_mul, hb]; rfl
  · show k0_off3 c (BitVec.ofNat 32 h.val) (BitVec.ofNat 32 (256 * k.val)) 1 + 1 * (y 1).val = 512 * 0 + (y 1).val
    rw [off3_eq, Nat.one_mul]; rfl

theorem xTerm1_apply (h : Fin 3) (k : Fin 4) (c b : Dev nD) (hb : b.val = (c.val + 2 + h.val) % 4) (y : S256x512.Idx) :
    xTerm X 1 h k c y = X c (at4 b k 1 y) := by
  show X c _ = X c _
  refine congrArg (X c) (funext fun a => Fin.ext ?_)
  fin_cases a
  · show k0_off4 c (BitVec.ofNat 32 h.val) (BitVec.ofNat 32 (256 * k.val)) 0 + 1 * (y 0).val = 1024 * b.val + 256 * k.val + (y 0).val
    rw [off4_eq, Nat.one_mul, hb]; rfl
  · show k0_off4 c (BitVec.ofNat 32 h.val) (BitVec.ofNat 32 (256 * k.val)) 1 + 1 * (y 1).val = 512 * 1 + (y 1).val
    rw [off4_eq, Nat.one_mul]; rfl

/-! ### The ring's sum: every device's piece, once -/

variable (Z : Blocks Ideal)

theorem four (f : Fin 4 → EReal) (p q r s : Fin 4) (h : ∀ x : Fin 4, x = p ∨ x = q ∨ x = r ∨ x = s) : ((f p + f q) + f r) + f s = ∑ i, f i := by
  rw [Fin.sum_univ_four]
  revert h
  fin_cases p <;> fin_cases q <;> fin_cases r <;> fin_cases s <;> first | (intro _; ac_rfl) | (intro h; exact absurd h (by decide))

/-- An element of a device's block, an extended real. -/
abbrev zr (s : Dev nD) (i : S4096x1024.Idx) : EReal := Z s i

theorem sum0 (k : Fin 4) (c : Dev nD) (y : S256x512.Idx) :
    acc Z 0 k 2 (prv c) y + xTerm Z 0 2 k c y = ∑ s : Fin 4, zr Z s (at4 c k 0 y) := by
  show ((((xSrc 0 k (prv (prv (prv c)))).view.read (Elt Ideal) (Z (prv (prv (prv c)))) y + xTerm Z 0 0 k (prv (prv c)) y : EReal)
    + xTerm Z 0 1 k (prv c) y : EReal) + xTerm Z 0 2 k c y : EReal) = _
  rw [xSrc0_apply Z k _ c (by revert c; decide), xTerm0_apply Z 0 k _ c (by revert c; decide),
    xTerm0_apply Z 1 k _ c (by revert c; decide), xTerm0_apply Z 2 k _ c (by revert c; decide)]
  exact four (fun s => zr Z s (at4 c k 0 y)) (prv (prv (prv c))) (prv (prv c)) (prv c) c (by revert c; decide)

theorem sum1 (k : Fin 4) (c : Dev nD) (y : S256x512.Idx) :
    acc Z 1 k 2 (nxt c) y + xTerm Z 1 2 k c y = ∑ s : Fin 4, zr Z s (at4 c k 1 y) := by
  show ((((xSrc 1 k (nxt (nxt (nxt c)))).view.read (Elt Ideal) (Z (nxt (nxt (nxt c)))) y + xTerm Z 1 0 k (nxt (nxt c)) y : EReal)
    + xTerm Z 1 1 k (nxt c) y : EReal) + xTerm Z 1 2 k c y : EReal) = _
  rw [xSrc1_apply Z k _ c (by revert c; decide), xTerm1_apply Z 0 k _ c (by revert c; decide),
    xTerm1_apply Z 1 k _ c (by revert c; decide), xTerm1_apply Z 2 k _ c (by revert c; decide)]
  exact four (fun s => zr Z s (at4 c k 1 y)) (nxt (nxt (nxt c))) (nxt (nxt c)) (nxt c) c (by revert c; decide)

/-- The finished sum at row `r` of device `c`'s rows `256 * k` on, column `j`. -/
def tot (c : Dev nD) (k : Fin 4) (r : Fin 256) (j : Fin 1024) : EReal :=
  ∑ s : Fin 4, zr Z s (ix2 ⟨1024 * c.val + 256 * k.val + r.val, by have : c.val < 4 := c.isLt; have := k.isLt; have := r.isLt; omega⟩ j)

/-- The reciprocal root mean square of a row. -/
def irms (f : Fin 1024 → EReal) : EReal :=
  Ideal.rsqrt (Ideal.div (∑ j, f j * f j) (Ideal.ofBits .f32 0x44800000#32) + Ideal.ofBits .f32 0x358637BD#32)

variable (g : (cc0_stg1_0 : Ref sig .tc).ty.Contents (Elt Ideal))

theorem landed0 (k : Fin 4) (c : Dev nD) : landed X (16 + 2 * k.val) c = acc X 0 k 2 (prv c) := by fin_cases k <;> rfl
theorem landed1 (k : Fin 4) (c : Dev nD) : landed X (17 + 2 * k.val) c = acc X 1 k 2 (nxt c) := by fin_cases k <;> rfl

theorem half0 (c : Dev nD) (k : Fin 4) (r : Fin 256) (x : Fin 512) :
    (acc Z 0 k 2 (prv c) (ix2 r x) + xTerm Z 0 2 k c (ix2 r x) : EReal) = tot Z c k r ⟨x.val, by have := x.isLt; omega⟩ := by
  refine (sum0 Z k c (ix2 r x)).trans (Finset.sum_congr rfl fun s _ => congrArg (zr Z s) ?_)
  exact congrArg₂ ix2 rfl (Fin.ext (Nat.zero_add _))

theorem half1 (c : Dev nD) (k : Fin 4) (r : Fin 256) (x : Fin 512) :
    (acc Z 1 k 2 (nxt c) (ix2 r x) + xTerm Z 1 2 k c (ix2 r x) : EReal) = tot Z c k r ⟨512 + x.val, by have := x.isLt; omega⟩ :=
  sum1 Z k c (ix2 r x)

theorem rows_apply (c : Dev nD) (k : Fin 4) (i : S256x1024.Idx) :
    rows Z g c k i = (tot Z c k (i 0) (i 1) * irms (tot Z c k (i 0))) * g (ix2 0 (i 1)) := by
  have hg : ∀ y : S1x1024.Idx, gM.view.readAt (Elt Ideal) (Rect.unit (s := S1x1024) ![0, 0] S1x1024.size inb_S1x1024_S1x1024_0_0).toLoadRect g y = g y := by
    intro y
    show g _ = g _
    refine congrArg g (funext fun a => Fin.ext ?_)
    show (![0, 0] : Fin 2 → ℕ) a + 1 * (y a).val = (y a).val
    fin_cases a
    · show 0 + 1 * (y 0).val = (y 0).val
      omega
    · show 0 + 1 * (y 1).val = (y 1).val
      omega
  unfold rows
  rw [landed0, landed1]
  unfold_payloads
  pointwise
  refine congrArg₂ (· * ·) (congrArg₂ (· * ·) ?_ (congrArg Ideal.rsqrt (congrArg₂ (· + ·) (congrArg₂ Ideal.div ?_ rfl) rfl))) (hg _)
  · split
    · exact half0 Z c k (i 0) _
    · exact (half1 Z c k (i 0) _).trans (congrArg (tot Z c k (i 0)) (Fin.ext (by show 512 + ((i 1).val - 512) = (i 1).val; omega)))
  · refine (congrArg₂ (· + ·) (Finset.sum_congr rfl fun x _ => ?_) (Finset.sum_congr rfl fun x _ => ?_)).trans
      (Fin.sum_univ_two_halves 512 512 rfl (fun j => tot Z c k (i 0) j * tot Z c k (i 0) j)).symm
    · exact congrArg₂ (· * ·) (half0 Z c k (i 0) x) (half0 Z c k (i 0) x)
    · exact congrArg₂ (· * ·) (half1 Z c k (i 0) x) (half1 Z c k (i 0) x)

/-- The finished sum of row `r` of device `c`'s rows, column `j`. -/
def full (c : Dev nD) (r : Fin 1024) (j : Fin 1024) : EReal :=
  ∑ s : Fin 4, zr Z s (ix2 ⟨1024 * c.val + r.val, by have : c.val < 4 := c.isLt; have := r.isLt; omega⟩ j)

theorem tot_eq (c : Dev nD) (i : S1024x1024.Idx) : tot Z c (grp i) (loc i 0) = full Z c (i 0) := by
  funext j
  refine Finset.sum_congr rfl fun s _ => congrArg (zr Z s) (congrArg₂ ix2 (Fin.ext ?_) rfl)
  show 1024 * c.val + 256 * ((i 0).val / 256) + ((i 0).val - 256 * ((i 0).val / 256)) = 1024 * c.val + (i 0).val
  have := Nat.div_mul_le_self (i 0).val 256
  omega

/-- The result of device `c`, at an index. -/
theorem res_apply (c : Dev nD) (i : S1024x1024.Idx) :
    res Z g c i = (full Z c (i 0) (i 1) * irms (full Z c (i 0))) * g (ix2 0 (i 1)) := by
  refine (rows_apply Z g c (grp i) (loc i)).trans ?_
  rw [tot_eq]
  have h : loc i 1 = i 1 := Fin.ext (Nat.sub_zero _)
  rw [h]

end Cert.KernelIdeal.Ring

end
-- ==== Proof.KernelIdeal.Arrays.lean ====
/- What the ring computes, in terms of the arrays the program is launched with: the blocks it reads are the arguments,
   relaid, and the result array ends as the result block. -/
module

public import proofs.«01_k».proof.Proof.KernelIdeal.Run
public import proofs.«01_k».proof.Proof.KernelIdeal.Value

@[expose] public section

noncomputable section

namespace Cert.KernelIdeal.Ring

open Cert.KernelIdeal Cert.KernelIdeal.Gen
open Idealize.ShloMosaic
open Idealize.ShloMosaic.TcCoe
open Idealize.ShloMosaic.StableHlo

variable {F : FTy → Type} [FloatOps F]

variable (m : (ℓ : Loc nD τ sig) → Buf (Elt F) ℓ)

/-- The region's one block of an array is the array: reading it reads the array. -/
theorem blk0_eq (c : Dev nD) (i : S4096x1024.Idx) : bX m c i = V m c main_v1 i := by
  show V m c main_v1 _ = _
  refine congrArg (V m c main_v1) (funext fun a => Fin.ext ?_)
  fin_cases a
  · show 0 + 1 * (i 0).val = (i 0).val; omega
  · show 0 + 1 * (i 1).val = (i 1).val; omega

theorem blk1_eq (c : Dev nD) (i : S1x1024.Idx) : gB m c i = V m c main_v2 i := by
  show V m c main_v2 _ = _
  refine congrArg (V m c main_v2) (funext fun a => Fin.ext ?_)
  fin_cases a
  · show 0 + 1 * (i 0).val = (i 0).val; omega
  · show 0 + 1 * (i 1).val = (i 1).val; omega

theorem V_v1 (c : Dev nD) : V m c main_v1 = shapeCast S4096x1024 (m ((c : Thread nD τ).loc main_arg0)) shapeCasts_S1x4096x1024_S4096x1024 := by
  unfold V hostOps0; after_results; rfl
theorem V_v2 (c : Dev nD) : V m c main_v2 = shapeCast S1x1024 (m ((c : Thread nD τ).loc main_arg1)) shapeCasts_S1024_S1x1024 := by
  unfold V hostOps0; after_results; rfl

theorem cast_v1 {α : Type} (x : S1x4096x1024.Idx → α) (r : Fin 4096) (j : Fin 1024) :
    shapeCast S4096x1024 x shapeCasts_S1x4096x1024_S4096x1024 (ix2 r j) = x (ix3 0 r j) := by
  pointwise
theorem cast_v2 {α : Type} (x : S1024.Idx → α) (j : Fin 1024) :
    shapeCast S1x1024 x shapeCasts_S1024_S1x1024 (ix2 0 j) = x (ix1 j) := by
  pointwise

/-- Device `c`'s block, at row `r` and column `j`. -/
theorem bX_apply (c : Dev nD) (r : Fin 4096) (j : Fin 1024) : bX m c (ix2 r j) = m ((c : Thread nD τ).loc main_arg0) (ix3 0 r j) :=
  (blk0_eq m c _).trans ((congrFun (V_v1 m c) _).trans (cast_v1 _ r j))

/-- The scale, at column `j`. -/
theorem gB_apply (c : Dev nD) (j : Fin 1024) : gB m c (ix2 0 j) = m ((c : Thread nD τ).loc main_arg1) (ix1 j) :=
  (blk1_eq m c _).trans ((congrFun (V_v2 m c) _).trans (cast_v2 _ j))

/-- The result array ends as the result block of the one grid point. -/
theorem resArr_eq (c : Dev nD) : resArr m c = res (bX m) (gB m c) c := by
  have h := (dat m c).arrAt_succ 2 t0_0
  rw [if_pos (flush0_2 t0_0)] at h
  refine h.trans (funext fun i => ?_)
  have e : ((cfg0.win 2).blk t0_0).view.emb i = i := by
    refine funext fun a => Fin.ext ?_
    fin_cases a
    · show 0 + 1 * (i 0).val = (i 0).val; omega
    · show 0 + 1 * (i 1).val = (i 1).val; omega
  have w := View.write_emb_of_mem (v := ((cfg0.win 2).blk t0_0).view) (Val := Elt F) ((dat m c).arrAt 2 t0_0) ((dat m c).flushed 2 t0_0)
    (M := Finset.univ) (x := i) (Finset.mem_univ _)
  rw [e] at w
  exact w

end Cert.KernelIdeal.Ring

end
-- ==== Proof.Equation.lean ====
/- The kernel's result rows and the reference's, on exact numbers: the same sum over the devices, the same mean of squares,
   and a product with a reciprocal root equal to a quotient by the root. -/
module

public import proofs.«01_k».proof.Proof.KernelIdeal.Arrays
public import proofs.«01_k».proof.Proof.Gen.ReferenceIdeal.Run
public import Idealize.ShloMosaic.Lib.Layout

@[expose] public section

noncomputable section

namespace Cert.Equation

open Idealize.ShloMosaic

/-! ### Root and reciprocal root -/

theorem sq_nonneg' (x : EReal) : 0 ≤ x * x := by
  induction x with
  | bot => simp
  | top => simp
  | coe r => rw [← EReal.coe_mul]; exact EReal.coe_nonneg.mpr (mul_self_nonneg r)

theorem count_pos : (0 : EReal) ≤ (Ideal.ofBits .f32 0x44800000#32)⁻¹ ∧ Ideal.ofBits .f32 0x44800000#32 ≠ 0 := by
  have h : Ideal.ofBits .f32 0x44800000#32 = ((1024 : ℝ) : EReal) := by
    simp [Ideal.ofBits, Ideal.ieee, -EReal.coe_mul]; norm_num
  rw [h]
  refine ⟨?_, ?_⟩
  · rw [← EReal.coe_inv]; exact EReal.coe_nonneg.mpr (by norm_num)
  · exact EReal.coe_ne_zero.mpr (by norm_num)

theorem eps_pos : (0 : EReal) < Ideal.ofBits .f32 0x358637BD#32 := by
  simp [Ideal.ofBits, Ideal.ieee, -EReal.coe_mul]

/-- Above zero, a product with the reciprocal root is a quotient by the root. -/
theorem mul_rsqrt (y z : EReal) (hz : 0 < z) : y * Ideal.rsqrt z = Ideal.div y (Ideal.sqrt z) := by
  induction z with
  | bot => exact absurd hz (by simp)
  | top => simp [Ideal.div]
  | coe r =>
    have hr : 0 < r := EReal.coe_pos.mp hz
    have hs : Real.sqrt r ≠ 0 := (Real.sqrt_pos.mpr hr).ne'
    rw [Ideal.rsqrt_coe, Ideal.sqrt_coe, if_neg hr.not_gt, if_neg hr.ne', if_neg hr.not_gt, Ideal.div,
      if_neg (EReal.coe_ne_zero.mpr hs), EReal.coe_inv]

/-- The mean of squares, plus the small constant, is above zero. -/
theorem mean_pos (f : Fin 1024 → EReal) :
    0 < Ideal.div (∑ j, f j * f j) (Ideal.ofBits .f32 0x44800000#32) + Ideal.ofBits .f32 0x358637BD#32 := by
  unfold Ideal.div
  rw [if_neg count_pos.2]
  exact lt_of_lt_of_le eps_pos (le_add_of_nonneg_left (mul_nonneg (Finset.sum_nonneg fun j _ => sq_nonneg' (f j)) count_pos.1))

/-! ### The reference at an index -/

section Reference
open Cert.ReferenceIdeal Cert.ReferenceIdeal.Gen

variable (x : FVec Ideal S4x4096x1024 .f32) (g : FVec Ideal S1024 .f32)

/-- The reference's sum over the four parts. -/
def total : FVec Ideal S4096x1024 .f32 := Host.reduceAdd x (constant S_ .f32 0x00000000#32) reducesTo_S4x4096x1024_S4096x1024_d0 h_S_

/-- The reference's root mean square, as a column. -/
def rms : FVec Ideal S4096x1 .f32 :=
  Host.sqrt (addf
    (Host.divf (broadcastInDim S4096x1 ![0] bcast_S4096_S4096x1_0
        (Host.reduceAdd (mulf (total x) (total x)) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32)))

/-- What the reference returns. -/
def refOut : FVec Ideal S4096x1024 .f32 :=
  mulf (Host.divf (total x) (broadcastInDim S4096x1024 ![0, 1] bcast_S4096x1_S4096x1024_0_1 (rms x)))
    (broadcastInDim S4096x1024 ![0, 1] bcast_S1x1024_S4096x1024_0_1 (broadcastInDim S1x1024 ![1] bcast_S1024_S1x1024_1 g))

theorem total_apply (r : Fin 4096) (j : Fin 1024) : total x (ix2 r j) = ∑ s : Fin 4, (x (ix3 s r j) : EReal) := by
  unfold total
  pointwise

theorem rms_apply (r : Fin 4096) : rms x (ix2 r 0) = Ideal.sqrt (Ideal.div (∑ j : Fin 1024, (total x (ix2 r j) * total x (ix2 r j) : EReal))
    (Ideal.ofBits .f32 0x44800000#32) + Ideal.ofBits .f32 0x358637BD#32) := by
  unfold rms
  pointwise

theorem refOut_apply (r : Fin 4096) (j : Fin 1024) :
    refOut x g (ix2 r j) = (Ideal.div (total x (ix2 r j)) (rms x (ix2 r 0)) * g (ix1 j) : EReal) := by
  unfold refOut
  pointwise

/-- The same with the quotient as a product by the reciprocal root mean square. -/
theorem refOut_row (r : Fin 4096) (j : Fin 1024) :
    refOut x g (ix2 r j) = ((total x (ix2 r j) * Cert.KernelIdeal.Ring.irms (fun j => total x (ix2 r j))) * g (ix1 j) : EReal) := by
  rw [refOut_apply, rms_apply, ← mul_rsqrt _ _ (mean_pos fun j => total x (ix2 r j))]
  rfl

end Reference

/-! ### Device `c`'s rows -/

section Rows
open Cert.KernelIdeal Cert.KernelIdeal.Gen Cert.KernelIdeal.Ring
open Idealize.ShloMosaic.TcCoe

/-- The input is four blocks along its first axis, the result four along its rows. -/
theorem tilesX : Layout.Tiles ⟨3, ![1, 4096, 1024]⟩ ⟨3, ![4, 4096, 1024]⟩ 0 4 := by decide
theorem tilesO : Layout.Tiles ⟨2, ![1024, 1024]⟩ ⟨2, ![4096, 1024]⟩ 0 4 := by decide

variable (m : (ℓ : Loc nD τ sig) → Buf (Elt Ideal) ℓ) (x : FVec Ideal Cert.ReferenceIdeal.S4x4096x1024 .f32) (g : FVec Ideal Cert.ReferenceIdeal.S1024 .f32)
  (hx : ∀ c : Dev nD, m ((c : Thread nD τ).loc main_arg0) = Layout.block ⟨3, ![1, 4096, 1024]⟩ ⟨3, ![4, 4096, 1024]⟩ 0 4 c x tilesX)
  (hg : ∀ c : Dev nD, m ((c : Thread nD τ).loc main_arg1) = g)
include hx

/-- A device's block, read in the whole input. -/
theorem part_eq (s : Dev nD) (r : Fin 4096) (j : Fin 1024) : bX m s (ix2 r j) = x (ix3 s r j) := by
  rw [bX_apply, hx]
  refine congrArg x (funext fun a => Fin.ext ?_)
  rw [Layout.Tiles.idx_val]
  fin_cases a
  · show s.val * 1 + 0 = s.val; omega
  · rfl
  · rfl

/-- The ring's finished sum is the reference's. -/
theorem full_eq (c : Dev nD) (r j : Fin 1024) :
    full (bX m) c r j = total x (ix2 ⟨1024 * c.val + r.val, by have : c.val < 4 := c.isLt; have := r.isLt; omega⟩ j) := by
  rw [total_apply]
  exact Finset.sum_congr rfl fun s _ => part_eq m x hx s _ j

include hg

/-- Device `c`'s result is its block of the reference's. -/
theorem result_eq (c : Dev nD) :
    resArr m c = Layout.block ⟨2, ![1024, 1024]⟩ ⟨2, ![4096, 1024]⟩ 0 4 c (refOut x g) tilesO := by
  rw [resArr_eq]
  funext i
  have hlt : 1024 * c.val + (i 0).val < 4096 := by
    have : c.val < 4 := c.isLt
    have : (i 0).val < 1024 := (i 0).isLt
    omega
  have hi : Layout.block ⟨2, ![1024, 1024]⟩ ⟨2, ![4096, 1024]⟩ 0 4 c (refOut x g) tilesO i
      = refOut x g (ix2 ⟨1024 * c.val + (i 0).val, hlt⟩ (i 1)) := by
    refine congrArg (refOut x g) (funext fun a => Fin.ext ?_)
    rw [Layout.Tiles.idx_val]
    fin_cases a
    · show c.val * 1024 + (i 0).val = 1024 * c.val + (i 0).val; omega
    · rfl
  have hf : full (bX m) c (i 0) = fun j => total x (ix2 ⟨1024 * c.val + (i 0).val, hlt⟩ j) := funext fun j => full_eq m x hx c (i 0) j
  refine ((res_apply (bX m) (gB m c) c i).trans ?_).trans (hi.trans (refOut_row x g _ _)).symm
  rw [hf]
  exact congrArg₂ (· * ·) rfl ((gB_apply m c (i 1)).trans (congrFun (hg c) _))

end Rows

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel, on the machine's floats: it runs, and leaves its arguments and every counter as they were. -/
theorem frame_p : Cert.quiescent_Kernel (hKernel := Cert.Kernel.Gen.facts) := fun m g _ =>
  (θ_run Cert.Kernel.defs _ _).mono (fun _ h => ⟨fun c => ⟨(h.1 c).1, (h.1 c).2.1⟩, h.2⟩)
    (Cert.Kernel.Ring.run_main m g)

/-- The kernel on exact numbers, likewise. -/
theorem frame_pi : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩)
    (Cert.KernelIdeal.Ring.run_main m g)

/-- The reference on exact numbers: its host operations run in a line, and it has no counter. -/
theorem frame_ri : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each device's result is its block of the reference's, when its arguments are its parts of the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.Equation.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c).2.2).trans (Cert.Equation.result_eq m _ _ (fun c => (hagree c).1) (fun c => (hagree c).2) c),
        (h.1 c).1, (h.1 c).2.1⟩)
      (Cert.KernelIdeal.Ring.run_main m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_p, frame_pi, frame_ri, trivial, algebraic⟩

end Cert.Proof

end
